-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S1024x200x5 : Shape := ⟨3, ![1024, 200, 5]⟩
abbrev S100000x64 : Shape := ⟨2, ![100000, 64]⟩
abbrev S7x8 : Shape := ⟨2, ![7, 8]⟩
abbrev S24x16 : Shape := ⟨2, ![24, 16]⟩
abbrev S4x8 : Shape := ⟨2, ![4, 8]⟩
abbrev S1x16 : Shape := ⟨2, ![1, 16]⟩
abbrev S16 : Shape := ⟨1, ![16]⟩
abbrev S112x128 : Shape := ⟨2, ![112, 128]⟩
abbrev S128 : Shape := ⟨1, ![128]⟩
abbrev S1024x200x4 : Shape := ⟨3, ![1024, 200, 4]⟩
abbrev S_ : Shape := ⟨0, ![]⟩
abbrev S1024x200x1 : Shape := ⟨3, ![1024, 200, 1]⟩
abbrev S4x64 : Shape := ⟨2, ![4, 64]⟩
abbrev S4x16 : Shape := ⟨2, ![4, 16]⟩

class Facts : Prop where
  slices_S1024x200x5_S1024x200x4_0_0_0 : S1024x200x5.Slices ![0, 0, 0] S1024x200x4
  bcast_S_S1024x200x4 : S_.BroadcastsInDim S1024x200x4 (![] : Fin 0 → Fin S1024x200x4.rank)
  reducesTo_S1024x200x4_S_d0_1_2 : S1024x200x4.ReducesTo [0, 1, 2] S_
  h_S_ : 0 < S_.numel
  slices_S1024x200x5_S1024x200x1_0_0_4 : S1024x200x5.Slices ![0, 0, 4] S1024x200x1
  bcast_S_S1024x200x1 : S_.BroadcastsInDim S1024x200x1 (![] : Fin 0 → Fin S1024x200x1.rank)
  reducesTo_S1024x200x1_S_d0_1_2 : S1024x200x1.ReducesTo [0, 1, 2] S_
  slices_S100000x64_S4x64_0_0 : S100000x64.Slices ![0, 0] S4x64
  bcast_S_S4x64 : S_.BroadcastsInDim S4x64 (![] : Fin 0 → Fin S4x64.rank)
  reducesTo_S4x64_S_d0_1 : S4x64.ReducesTo [0, 1] S_
  slices_S7x8_S4x8_0_0 : S7x8.Slices ![0, 0] S4x8
  bcast_S_S4x8 : S_.BroadcastsInDim S4x8 (![] : Fin 0 → Fin S4x8.rank)
  reducesTo_S4x8_S_d0_1 : S4x8.ReducesTo [0, 1] S_
  slices_S24x16_S4x16_0_0 : S24x16.Slices ![0, 0] S4x16
  bcast_S_S4x16 : S_.BroadcastsInDim S4x16 (![] : Fin 0 → Fin S4x16.rank)
  reducesTo_S4x16_S_d0_1 : S4x16.ReducesTo [0, 1] S_
  bcast_S_S1x16 : S_.BroadcastsInDim S1x16 (![] : Fin 0 → Fin S1x16.rank)
  reducesTo_S1x16_S_d0_1 : S1x16.ReducesTo [0, 1] S_
  bcast_S_S112x128 : S_.BroadcastsInDim S112x128 (![] : Fin 0 → Fin S112x128.rank)
  reducesTo_S112x128_S_d0_1 : S112x128.ReducesTo [0, 1] S_
  bcast_S_S16 : S_.BroadcastsInDim S16 (![] : Fin 0 → Fin S16.rank)
  reducesTo_S16_S_d0 : S16.ReducesTo [0] S_
  bcast_S_S128 : S_.BroadcastsInDim S128 (![] : Fin 0 → Fin S128.rank)
  reducesTo_S128_S_d0 : S128.ReducesTo [0] S_

variable [Facts]

def fn_part3 {F : FTy → Type} [FloatOps F] (main_arg9 : FVec F S128 .f32) (main_arg10 : FVec F S128 .f32) (main_v49 : IVec S_ 1) (main_v51 : IVec S128 1) : IVec S_ 1 :=
  let main_c_18 : IVec S_ 1 := constantI S_ 1 1#1
  let main_v52 : IVec S_ 1 := (fun x v => Host.reduce IntOp.andi x v reducesTo_S128_S_d0 h_S_) main_v51 main_c_18
  let main_v53 : IVec S_ 1 := andi main_v49 main_v52
  let main_cst_19 : FVec F S_ .f32 := constant S_ .f32 0x3F800000#32
  let main_v54 : FVec F S128 .f32 := broadcastInDim S128 ![] bcast_S_S128 main_cst_19
  let main_v55 : IVec S128 1 := cmpf .oeq main_arg9 main_v54
  let main_c_20 : IVec S_ 1 := constantI S_ 1 1#1
  let main_v56 : IVec S_ 1 := (fun x v => Host.reduce IntOp.andi x v reducesTo_S128_S_d0 h_S_) main_v55 main_c_20
  let main_v57 : IVec S_ 1 := andi main_v53 main_v56
  let main_cst_21 : FVec F S_ .f32 := constant S_ .f32 0x00000000#32
  let main_v58 : FVec F S128 .f32 := broadcastInDim S128 ![] bcast_S_S128 main_cst_21
  let main_v59 : IVec S128 1 := cmpf .oeq main_arg10 main_v58
  let main_c_22 : IVec S_ 1 := constantI S_ 1 1#1
  let main_v60 : IVec S_ 1 := (fun x v => Host.reduce IntOp.andi x v reducesTo_S128_S_d0 h_S_) main_v59 main_c_22
  let main_v61 : IVec S_ 1 := andi main_v57 main_v60
  main_v61

def fn_part2 {F : FTy → Type} [FloatOps F] (main_arg5 : FVec F S1x16 .f32) (main_arg6 : FVec F S16 .f32) (main_arg7 : FVec F S112x128 .f32) (main_arg8 : FVec F S128 .f32) (main_arg9 : FVec F S128 .f32) (main_arg10 : FVec F S128 .f32) (main_v30 : IVec S_ 1) (main_v34 : IVec S_ 1) : IVec S_ 1 :=
  let main_v35 : IVec S_ 1 := andi main_v30 main_v34
  let main_v36 : FVec F S1x16 .f32 := Host.absf main_arg5
  let main_cst_11 : FVec F S_ .f32 := constant S_ .f32 0x7F800000#32
  let main_v37 : FVec F S1x16 .f32 := broadcastInDim S1x16 ![] bcast_S_S1x16 main_cst_11
  let main_v38 : IVec S1x16 1 := cmpf .olt main_v36 main_v37
  let main_c_12 : IVec S_ 1 := constantI S_ 1 1#1
  let main_v39 : IVec S_ 1 := (fun x v => Host.reduce IntOp.andi x v reducesTo_S1x16_S_d0_1 h_S_) main_v38 main_c_12
  let main_v40 : IVec S_ 1 := andi main_v35 main_v39
  let main_v41 : FVec F S112x128 .f32 := Host.absf main_arg7
  let main_cst_13 : FVec F S_ .f32 := constant S_ .f32 0x7F800000#32
  let main_v42 : FVec F S112x128 .f32 := broadcastInDim S112x128 ![] bcast_S_S112x128 main_cst_13
  let main_v43 : IVec S112x128 1 := cmpf .olt main_v41 main_v42
  let main_c_14 : IVec S_ 1 := constantI S_ 1 1#1
  let main_v44 : IVec S_ 1 := (fun x v => Host.reduce IntOp.andi x v reducesTo_S112x128_S_d0_1 h_S_) main_v43 main_c_14
  let main_v45 : IVec S_ 1 := andi main_v40 main_v44
  let main_cst_15 : FVec F S_ .f32 := constant S_ .f32 0x00000000#32
  let main_v46 : FVec F S16 .f32 := broadcastInDim S16 ![] bcast_S_S16 main_cst_15
  let main_v47 : IVec S16 1 := cmpf .oeq main_arg6 main_v46
  let main_c_16 : IVec S_ 1 := constantI S_ 1 1#1
  let main_v48 : IVec S_ 1 := (fun x v => Host.reduce IntOp.andi x v reducesTo_S16_S_d0 h_S_) main_v47 main_c_16
  let main_v49 : IVec S_ 1 := andi main_v45 main_v48
  let main_cst_17 : FVec F S_ .f32 := constant S_ .f32 0x00000000#32
  let main_v50 : FVec F S128 .f32 := broadcastInDim S128 ![] bcast_S_S128 main_cst_17
  let main_v51 : IVec S128 1 := cmpf .oeq main_arg8 main_v50
  fn_part3 (F := F) main_arg9 main_arg10 main_v49 main_v51

def fn_part1 {F : FTy → Type} [FloatOps F] (main_arg2 : FVec F S7x8 .f32) (main_arg3 : FVec F S24x16 .f32) (main_arg4 : FVec F S4x8 .f32) (main_arg5 : FVec F S1x16 .f32) (main_arg6 : FVec F S16 .f32) (main_arg7 : FVec F S112x128 .f32) (main_arg8 : FVec F S128 .f32) (main_arg9 : FVec F S128 .f32) (main_arg10 : FVec F S128 .f32) (main_v12 : IVec S_ 1) (main_v16 : IVec S4x64 1) (main_c_4 : IVec S_ 1) : IVec S_ 1 :=
  let main_v17 : IVec S_ 1 := (fun x v => Host.reduce IntOp.andi x v reducesTo_S4x64_S_d0_1 h_S_) main_v16 main_c_4
  let main_v18 : IVec S_ 1 := andi main_v12 main_v17
  let main_v19 : FVec F S4x8 .f32 := (extractStridedSlice S4x8 ![0, 0] · slices_S7x8_S4x8_0_0) main_arg2
  let main_v20 : FVec F S4x8 .f32 := Host.absf main_v19
  let main_cst_5 : FVec F S_ .f32 := constant S_ .f32 0x7F800000#32
  let main_v21 : FVec F S4x8 .f32 := broadcastInDim S4x8 ![] bcast_S_S4x8 main_cst_5
  let main_v22 : IVec S4x8 1 := cmpf .olt main_v20 main_v21
  let main_c_6 : IVec S_ 1 := constantI S_ 1 1#1
  let main_v23 : IVec S_ 1 := (fun x v => Host.reduce IntOp.andi x v reducesTo_S4x8_S_d0_1 h_S_) main_v22 main_c_6
  let main_v24 : IVec S_ 1 := andi main_v18 main_v23
  let main_v25 : FVec F S4x16 .f32 := (extractStridedSlice S4x16 ![0, 0] · slices_S24x16_S4x16_0_0) main_arg3
  let main_v26 : FVec F S4x16 .f32 := Host.absf main_v25
  let main_cst_7 : FVec F S_ .f32 := constant S_ .f32 0x7F800000#32
  let main_v27 : FVec F S4x16 .f32 := broadcastInDim S4x16 ![] bcast_S_S4x16 main_cst_7
  let main_v28 : IVec S4x16 1 := cmpf .olt main_v26 main_v27
  let main_c_8 : IVec S_ 1 := constantI S_ 1 1#1
  let main_v29 : IVec S_ 1 := (fun x v => Host.reduce IntOp.andi x v reducesTo_S4x16_S_d0_1 h_S_) main_v28 main_c_8
  let main_v30 : IVec S_ 1 := andi main_v24 main_v29
  let main_v31 : FVec F S4x8 .f32 := Host.absf main_arg4
  let main_cst_9 : FVec F S_ .f32 := constant S_ .f32 0x7F800000#32
  let main_v32 : FVec F S4x8 .f32 := broadcastInDim S4x8 ![] bcast_S_S4x8 main_cst_9
  let main_v33 : IVec S4x8 1 := cmpf .olt main_v31 main_v32
  let main_c_10 : IVec S_ 1 := constantI S_ 1 1#1
  let main_v34 : IVec S_ 1 := (fun x v => Host.reduce IntOp.andi x v reducesTo_S4x8_S_d0_1 h_S_) main_v33 main_c_10
  fn_part2 (F := F) main_arg5 main_arg6 main_arg7 main_arg8 main_arg9 main_arg10 main_v30 main_v34

def fn {F : FTy → Type} [FloatOps F] (main_arg0 : FVec F S1024x200x5 .f32) (main_arg1 : FVec F S100000x64 .f32) (main_arg2 : FVec F S7x8 .f32) (main_arg3 : FVec F S24x16 .f32) (main_arg4 : FVec F S4x8 .f32) (main_arg5 : FVec F S1x16 .f32) (main_arg6 : FVec F S16 .f32) (main_arg7 : FVec F S112x128 .f32) (main_arg8 : FVec F S128 .f32) (main_arg9 : FVec F S128 .f32) (main_arg10 : FVec F S128 .f32) : IVec S_ 1 :=
  let main_v0 : FVec F S1024x200x4 .f32 := (extractStridedSlice S1024x200x4 ![0, 0, 0] · slices_S1024x200x5_S1024x200x4_0_0_0) main_arg0
  let main_cst : FVec F S_ .f32 := constant S_ .f32 0x00000000#32
  let main_v1 : FVec F S1024x200x4 .f32 := broadcastInDim S1024x200x4 ![] bcast_S_S1024x200x4 main_cst
  let main_v2 : IVec S1024x200x4 1 := cmpf .oge main_v0 main_v1
  let main_cst_0 : FVec F S_ .f32 := constant S_ .f32 0x40800000#32
  let main_v3 : FVec F S1024x200x4 .f32 := broadcastInDim S1024x200x4 ![] bcast_S_S1024x200x4 main_cst_0
  let main_v4 : IVec S1024x200x4 1 := cmpf .olt main_v0 main_v3
  let main_v5 : IVec S1024x200x4 1 := andi main_v2 main_v4
  let main_c : IVec S_ 1 := constantI S_ 1 1#1
  let main_v6 : IVec S_ 1 := (fun x v => Host.reduce IntOp.andi x v reducesTo_S1024x200x4_S_d0_1_2 h_S_) main_v5 main_c
  let main_v7 : FVec F S1024x200x1 .f32 := (extractStridedSlice S1024x200x1 ![0, 0, 4] · slices_S1024x200x5_S1024x200x1_0_0_4) main_arg0
  let main_v8 : FVec F S1024x200x1 .f32 := Host.absf main_v7
  let main_cst_1 : FVec F S_ .f32 := constant S_ .f32 0x7F800000#32
  let main_v9 : FVec F S1024x200x1 .f32 := broadcastInDim S1024x200x1 ![] bcast_S_S1024x200x1 main_cst_1
  let main_v10 : IVec S1024x200x1 1 := cmpf .olt main_v8 main_v9
  let main_c_2 : IVec S_ 1 := constantI S_ 1 1#1
  let main_v11 : IVec S_ 1 := (fun x v => Host.reduce IntOp.andi x v reducesTo_S1024x200x1_S_d0_1_2 h_S_) main_v10 main_c_2
  let main_v12 : IVec S_ 1 := andi main_v6 main_v11
  let main_v13 : FVec F S4x64 .f32 := (extractStridedSlice S4x64 ![0, 0] · slices_S100000x64_S4x64_0_0) main_arg1
  let main_v14 : FVec F S4x64 .f32 := Host.absf main_v13
  let main_cst_3 : FVec F S_ .f32 := constant S_ .f32 0x7F800000#32
  let main_v15 : FVec F S4x64 .f32 := broadcastInDim S4x64 ![] bcast_S_S4x64 main_cst_3
  let main_v16 : IVec S4x64 1 := cmpf .olt main_v14 main_v15
  let main_c_4 : IVec S_ 1 := constantI S_ 1 1#1
  fn_part1 (F := F) main_arg2 main_arg3 main_arg4 main_arg5 main_arg6 main_arg7 main_arg8 main_arg9 main_arg10 main_v12 main_v16 main_c_4
-- ==== Kernel.lean ====
abbrev S1024x200x5 : Shape := ⟨3, ![1024, 200, 5]⟩
abbrev S100000x64 : Shape := ⟨2, ![100000, 64]⟩
abbrev S7x8 : Shape := ⟨2, ![7, 8]⟩
abbrev S24x16 : Shape := ⟨2, ![24, 16]⟩
abbrev S4x8 : Shape := ⟨2, ![4, 8]⟩
abbrev S1x16 : Shape := ⟨2, ![1, 16]⟩
abbrev S16 : Shape := ⟨1, ![16]⟩
abbrev S112x128 : Shape := ⟨2, ![112, 128]⟩
abbrev S128 : Shape := ⟨1, ![128]⟩
abbrev S4x64 : Shape := ⟨2, ![4, 64]⟩
abbrev S_ : Shape := ⟨0, ![]⟩
abbrev S8x64 : Shape := ⟨2, ![8, 64]⟩
abbrev S8x8 : Shape := ⟨2, ![8, 8]⟩
abbrev S4x16 : Shape := ⟨2, ![4, 16]⟩
abbrev S8x16 : Shape := ⟨2, ![8, 16]⟩
abbrev S1024x200x128 : Shape := ⟨3, ![1024, 200, 128]⟩
abbrev S16x200x5 : Shape := ⟨3, ![16, 200, 5]⟩
abbrev S16x200x128 : Shape := ⟨3, ![16, 200, 128]⟩
abbrev S64x128 : Shape := ⟨2, ![64, 128]⟩
abbrev S8x128 : Shape := ⟨2, ![8, 128]⟩
abbrev S16x128 : Shape := ⟨2, ![16, 128]⟩
abbrev S1x128 : Shape := ⟨2, ![1, 128]⟩
abbrev S7x128 : Shape := ⟨2, ![7, 128]⟩
abbrev S40x128 : Shape := ⟨2, ![40, 128]⟩
abbrev S5x40 : Shape := ⟨2, ![5, 40]⟩
abbrev S3200x5 : Shape := ⟨2, ![3200, 5]⟩
abbrev S3200x40 : Shape := ⟨2, ![3200, 40]⟩
abbrev S3200x128 : Shape := ⟨2, ![3200, 128]⟩
abbrev S128x128 : Shape := ⟨2, ![128, 128]⟩

abbrev nBuf : Space → Nat
  | .hbm => 27
  | .vmem => 10
  | .smem => 0
  | _ => 0

abbrev bufTy : (tb : Table) → Fin (tcTables nBuf tb) → BufTy
  | .hbm, ⟨0, _⟩ => ⟨S1024x200x5, .f32⟩
  | .hbm, ⟨1, _⟩ => ⟨S100000x64, .f32⟩
  | .hbm, ⟨2, _⟩ => ⟨S7x8, .f32⟩
  | .hbm, ⟨3, _⟩ => ⟨S24x16, .f32⟩
  | .hbm, ⟨4, _⟩ => ⟨S4x8, .f32⟩
  | .hbm, ⟨5, _⟩ => ⟨S1x16, .f32⟩
  | .hbm, ⟨6, _⟩ => ⟨S16, .f32⟩
  | .hbm, ⟨7, _⟩ => ⟨S112x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S4x64, .f32⟩
  | .hbm, ⟨12, _⟩ => ⟨S_, .f32⟩
  | .hbm, ⟨13, _⟩ => ⟨S4x64, .f32⟩
  | .hbm, ⟨14, _⟩ => ⟨S8x64, .f32⟩
  | .hbm, ⟨15, _⟩ => ⟨S4x8, .f32⟩
  | .hbm, ⟨16, _⟩ => ⟨S_, .f32⟩
  | .hbm, ⟨17, _⟩ => ⟨S4x8, .f32⟩
  | .hbm, ⟨18, _⟩ => ⟨S8x8, .f32⟩
  | .hbm, ⟨19, _⟩ => ⟨S4x16, .f32⟩
  | .hbm, ⟨20, _⟩ => ⟨S_, .f32⟩
  | .hbm, ⟨21, _⟩ => ⟨S4x16, .f32⟩
  | .hbm, ⟨22, _⟩ => ⟨S8x16, .f32⟩
  | .hbm, ⟨23, _⟩ => ⟨S_, .f32⟩
  | .hbm, ⟨24, _⟩ => ⟨S4x8, .f32⟩
  | .hbm, ⟨25, _⟩ => ⟨S8x8, .f32⟩
  | .hbm, ⟨26, _⟩ => ⟨S1024x200x128, .f32⟩
  | .local _ .vmem, ⟨0, _⟩ => ⟨S16x200x5, .f32⟩
  | .local _ .vmem, ⟨1, _⟩ => ⟨S16x200x5, .f32⟩
  | .local _ .vmem, ⟨2, _⟩ => ⟨S8x64, .f32⟩
  | .local _ .vmem, ⟨3, _⟩ => ⟨S8x8, .f32⟩
  | .local _ .vmem, ⟨4, _⟩ => ⟨S8x16, .f32⟩
  | .local _ .vmem, ⟨5, _⟩ => ⟨S8x8, .f32⟩
  | .local _ .vmem, ⟨6, _⟩ => ⟨S1x16, .f32⟩
  | .local _ .vmem, ⟨7, _⟩ => ⟨S112x128, .f32⟩
  | .local _ .vmem, ⟨8, _⟩ => ⟨S16x200x128, .f32⟩
  | .local _ .vmem, ⟨9, _⟩ => ⟨S16x200x128, .f32⟩
  | _, _ => ⟨S1024x200x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x200x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S112x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S16x200x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S1024x200x5 : Shape := ⟨3, ![1024, 200, 5]⟩
abbrev S100000x64 : Shape := ⟨2, ![100000, 64]⟩
abbrev S7x8 : Shape := ⟨2, ![7, 8]⟩
abbrev S24x16 : Shape := ⟨2, ![24, 16]⟩
abbrev S4x8 : Shape := ⟨2, ![4, 8]⟩
abbrev S1x16 : Shape := ⟨2, ![1, 16]⟩
abbrev S16 : Shape := ⟨1, ![16]⟩
abbrev S112x128 : Shape := ⟨2, ![112, 128]⟩
abbrev S128 : Shape := ⟨1, ![128]⟩
abbrev S1024x200x1 : Shape := ⟨3, ![1024, 200, 1]⟩
abbrev S1024x200 : Shape := ⟨2, ![1024, 200]⟩
abbrev S_ : Shape := ⟨0, ![]⟩
abbrev S1 : Shape := ⟨1, ![1]⟩
abbrev S1x1x1 : Shape := ⟨3, ![1, 1, 1]⟩
abbrev S1024x200x64 : Shape := ⟨3, ![1024, 200, 64]⟩
abbrev S1024x200x8 : Shape := ⟨3, ![1024, 200, 8]⟩
abbrev S1024x200x16 : Shape := ⟨3, ![1024, 200, 16]⟩
abbrev S1x1x16 : Shape := ⟨3, ![1, 1, 16]⟩
abbrev S1024x200x112 : Shape := ⟨3, ![1024, 200, 112]⟩
abbrev S1024x200x128 : Shape := ⟨3, ![1024, 200, 128]⟩
abbrev S1x1x128 : Shape := ⟨3, ![1, 1, 128]⟩

abbrev nBuf : Space → Nat
  | .hbm => 178
  | .vmem => 0
  | .smem => 0
  | _ => 0

abbrev hbmTy0_0 (i : Nat) : BufTy := match i % 128 with
  | 0 => ⟨S1024x200x5, .f32⟩
  | 1 => ⟨S100000x64, .f32⟩
  | 2 => ⟨S7x8, .f32⟩
  | 3 => ⟨S24x16, .f32⟩
  | 4 => ⟨S4x8, .f32⟩
  | 5 => ⟨S1x16, .f32⟩
  | 6 => ⟨S16, .f32⟩
  | 7 => ⟨S112x128, .f32⟩
  | 8 => ⟨S128, .f32⟩
  | 9 => ⟨S128, .f32⟩
  | 10 => ⟨S128, .f32⟩
  | 11 => ⟨S1024x200x1, .f32⟩
  | 12 => ⟨S1024x200, .f32⟩
  | 13 => ⟨S1024x200, .i32⟩
  | 14 => ⟨S1024x200x1, .f32⟩
  | 15 => ⟨S1024x200, .f32⟩
  | 16 => ⟨S1024x200, .i32⟩
  | 17 => ⟨S1024x200x1, .f32⟩
  | 18 => ⟨S1024x200, .f32⟩
  | 19 => ⟨S1024x200, .i32⟩
  | 20 => ⟨S1024x200x1, .f32⟩
  | 21 => ⟨S1024x200, .f32⟩
  | 22 => ⟨S1024x200, .i32⟩
  | 23 => ⟨S1024x200x1, .f32⟩
  | 24 => ⟨S_, .i32⟩
  | 25 => ⟨S1024x200, .i32⟩
  | 26 => ⟨S1024x200, .i1⟩
  | 27 => ⟨S_, .i32⟩
  | 28 => ⟨S1024x200, .i32⟩
  | 29 => ⟨S1024x200, .i32⟩
  | 30 => ⟨S1024x200, .i32⟩
  | 31 => ⟨S1024x200x1, .i32⟩
  | 32 => ⟨S1, .i32⟩
  | 33 => ⟨S_, .i32⟩
  | 34 => ⟨S1024x200x1, .i32⟩
  | 35 => ⟨S1024x200x1, .i1⟩
  | 36 => ⟨S1x1x1, .i32⟩
  | 37 => ⟨S1024x200x1, .i32⟩
  | 38 => ⟨S1024x200x1, .i1⟩
  | 39 => ⟨S1024x200x1, .i1⟩
  | 40 => ⟨S_, .i1⟩
  | 41 => ⟨S1024x200, .i1⟩
  | 42 => ⟨S1024x200x64, .f32⟩
  | 43 => ⟨S1024x200x64, .i1⟩
  | 44 => ⟨S_, .f32⟩
  | 45 => ⟨S1024x200x64, .f32⟩
  | 46 => ⟨S1024x200x64, .f32⟩
  | 47 => ⟨S_, .i32⟩
  | 48 => ⟨S1024x200, .i32⟩
  | 49 => ⟨S1024x200, .i1⟩
  | 50 => ⟨S_, .i32⟩
  | 51 => ⟨S1024x200, .i32⟩
  | 52 => ⟨S1024x200, .i32⟩
  | 53 => ⟨S1024x200, .i32⟩
  | 54 => ⟨S1024x200x1, .i32⟩
  | 55 => ⟨S1, .i32⟩
  | 56 => ⟨S_, .i32⟩
  | 57 => ⟨S1024x200x1, .i32⟩
  | 58 => ⟨S1024x200x1, .i1⟩
  | 59 => ⟨S1x1x1, .i32⟩
  | 60 => ⟨S1024x200x1, .i32⟩
  | 61 => ⟨S1024x200x1, .i1⟩
  | 62 => ⟨S1024x200x1, .i1⟩
  | 63 => ⟨S_, .i1⟩
  | 64 => ⟨S1024x200, .i1⟩
  | 65 => ⟨S1024x200x8, .f32⟩
  | 66 => ⟨S1024x200x8, .i1⟩
  | 67 => ⟨S_, .f32⟩
  | 68 => ⟨S1024x200x8, .f32⟩
  | 69 => ⟨S1024x200x8, .f32⟩
  | 70 => ⟨S_, .i32⟩
  | 71 => ⟨S1024x200, .i32⟩
  | 72 => ⟨S1024x200, .i1⟩
  | 73 => ⟨S_, .i32⟩
  | 74 => ⟨S1024x200, .i32⟩
  | 75 => ⟨S1024x200, .i32⟩
  | 76 => ⟨S1024x200, .i32⟩
  | 77 => ⟨S1024x200x1, .i32⟩
  | 78 => ⟨S1, .i32⟩
  | 79 => ⟨S_, .i32⟩
  | 80 => ⟨S1024x200x1, .i32⟩
  | 81 => ⟨S1024x200x1, .i1⟩
  | 82 => ⟨S1x1x1, .i32⟩
  | 83 => ⟨S1024x200x1, .i32⟩
  | 84 => ⟨S1024x200x1, .i1⟩
  | 85 => ⟨S1024x200x1, .i1⟩
  | 86 => ⟨S_, .i1⟩
  | 87 => ⟨S1024x200, .i1⟩
  | 88 => ⟨S1024x200x16, .f32⟩
  | 89 => ⟨S1024x200x16, .i1⟩
  | 90 => ⟨S_, .f32⟩
  | 91 => ⟨S1024x200x16, .f32⟩
  | 92 => ⟨S1024x200x16, .f32⟩
  | 93 => ⟨S_, .i32⟩
  | 94 => ⟨S1024x200, .i32⟩
  | 95 => ⟨S1024x200, .i1⟩
  | 96 => ⟨S_, .i32⟩
  | 97 => ⟨S1024x200, .i32⟩
  | 98 => ⟨S1024x200, .i32⟩
  | 99 => ⟨S1024x200, .i32⟩
  | 100 => ⟨S1024x200x1, .i32⟩
  | 101 => ⟨S1, .i32⟩
  | 102 => ⟨S_, .i32⟩
  | 103 => ⟨S1024x200x1, .i32⟩
  | 104 => ⟨S1024x200x1, .i1⟩
  | 105 => ⟨S1x1x1, .i32⟩
  | 106 => ⟨S1024x200x1, .i32⟩
  | 107 => ⟨S1024x200x1, .i1⟩
  | 108 => ⟨S1024x200x1, .i1⟩
  | 109 => ⟨S_, .i1⟩
  | 110 => ⟨S1024x200, .i1⟩
  | 111 => ⟨S1024x200x8, .f32⟩
  | 112 => ⟨S1024x200x8, .i1⟩
  | 113 => ⟨S_, .f32⟩
  | 114 => ⟨S1024x200x8, .f32⟩
  | 115 => ⟨S1024x200x8, .f32⟩
  | 116 => ⟨S1024x200x16, .f32⟩
  | 117 => ⟨S1x1x16, .f32⟩
  | 118 => ⟨S1024x200x16, .f32⟩
  | 119 => ⟨S1024x200x16, .f32⟩
  | 120 => ⟨S1024x200x112, .f32⟩
  | 121 => ⟨S1024x200x128, .f32⟩
  | 122 => ⟨S1x1x128, .f32⟩
  | 123 => ⟨S1024x200x128, .f32⟩
  | 124 => ⟨S1024x200x128, .f32⟩
  | 125 => ⟨S_, .f32⟩
  | 126 => ⟨S1024x200, .f32⟩
  | 127 => ⟨S1024x200x1, .f32⟩
  | _ => ⟨S1024x200x5, .f32⟩

abbrev hbmTy0_1 (i : Nat) : BufTy := match i % 128 with
  | 0 => ⟨S_, .f32⟩
  | 1 => ⟨S1024x200x1, .f32⟩
  | 2 => ⟨S1024x200x1, .f32⟩
  | 3 => ⟨S_, .i32⟩
  | 4 => ⟨S_, .f32⟩
  | 5 => ⟨S1024x200, .f32⟩
  | 6 => ⟨S1024x200x1, .f32⟩
  | 7 => ⟨S_, .f32⟩
  | 8 => ⟨S1024x200x1, .f32⟩
  | 9 => ⟨S1024x200x1, .f32⟩
  | 10 => ⟨S1024x200x128, .f32⟩
  | 11 => ⟨S1024x200x128, .f32⟩
  | 12 => ⟨S1024x200x128, .f32⟩
  | 13 => ⟨S_, .f32⟩
  | 14 => ⟨S_, .f32⟩
  | 15 => ⟨S_, .f32⟩
  | 16 => ⟨S_, .f32⟩
  | 17 => ⟨S1024x200, .f32⟩
  | 18 => ⟨S1024x200x1, .f32⟩
  | 19 => ⟨S1024x200x1, .f32⟩
  | 20 => ⟨S1024x200x1, .f32⟩
  | 21 => ⟨S_, .f32⟩
  | 22 => ⟨S_, .i1⟩
  | 23 => ⟨S_, .f32⟩
  | 24 => ⟨S_, .f32⟩
  | 25 => ⟨S1024x200x1, .f32⟩
  | 26 => ⟨S1024x200x1, .f32⟩
  | 27 => ⟨S1024x200x128, .f32⟩
  | 28 => ⟨S1024x200x128, .f32⟩
  | 29 => ⟨S_, .f32⟩
  | 30 => ⟨S1024x200x1, .f32⟩
  | 31 => ⟨S1024x200x1, .f32⟩
  | 32 => ⟨S1024x200x1, .f32⟩
  | 33 => ⟨S1024x200x128, .f32⟩
  | 34 => ⟨S1024x200x128, .f32⟩
  | 35 => ⟨S1x1x128, .f32⟩
  | 36 => ⟨S1024x200x128, .f32⟩
  | 37 => ⟨S1024x200x128, .f32⟩
  | 38 => ⟨S1x1x128, .f32⟩
  | 39 => ⟨S1024x200x128, .f32⟩
  | 40 => ⟨S1024x200x128, .f32⟩
  | 41 => ⟨S_, .f32⟩
  | 42 => ⟨S1024x200x128, .f32⟩
  | 43 => ⟨S1024x200x128, .f32⟩
  | 44 => ⟨S1024x200x128, .f32⟩
  | 45 => ⟨S_, .f32⟩
  | 46 => ⟨S1024x200x128, .f32⟩
  | 47 => ⟨S1024x200x128, .f32⟩
  | 48 => ⟨S1024x200x128, .f32⟩
  | 49 => ⟨S1024x200x128, .f32⟩
  | _ => ⟨S1024x200x5, .f32⟩

abbrev hbmTy (i : Nat) : BufTy := match i / 128 with
  | 0 => hbmTy0_0 i
  | 1 => hbmTy0_1 i
  | _ => ⟨S1024x200x5, .f32⟩

abbrev bufTy : (tb : Table) → Fin (tcTables nBuf tb) → BufTy
  | .hbm, ⟨i, _⟩ => hbmTy i
  | _, _ => ⟨S1024x200x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_cst : Ref sig .tc := ⟨.hbm, 44, rfl⟩
abbrev main_call0_v15 : Ref sig .tc := ⟨.hbm, 45, rfl⟩
abbrev main_v13 : Ref sig .tc := ⟨.hbm, 46, rfl⟩
abbrev main_call1_c : Ref sig .tc := ⟨.hbm, 47, rfl⟩
abbrev main_call1_v0 : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_c_1 : Ref sig .tc := ⟨.hbm, 55, rfl⟩
abbrev main_call1_c_2 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_3 : Ref sig .tc := ⟨.hbm, 63, rfl⟩
abbrev main_call1_v12 : Ref sig .tc := ⟨.hbm, 64, rfl⟩
abbrev main_call1_v13 : Ref sig .tc := ⟨.hbm, 65, rfl⟩
abbrev main_call1_v14 : Ref sig .tc := ⟨.hbm, 66, rfl⟩
abbrev main_call1_cst : Ref sig .tc := ⟨.hbm, 67, rfl⟩
abbrev main_call1_v15 : Ref sig .tc := ⟨.hbm, 68, rfl⟩
abbrev main_v14 : Ref sig .tc := ⟨.hbm, 69, rfl⟩
abbrev main_call2_c : Ref sig .tc := ⟨.hbm, 70, rfl⟩
abbrev main_call2_v0 : Ref sig .tc := ⟨.hbm, 71, rfl⟩
abbrev main_call2_v1 : Ref sig .tc := ⟨.hbm, 72, rfl⟩
abbrev main_call2_c_0 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_call2_v5 : Ref sig .tc := ⟨.hbm, 77, rfl⟩
abbrev main_call2_c_1 : Ref sig .tc := ⟨.hbm, 78, rfl⟩
abbrev main_call2_c_2 : Ref sig .tc := ⟨.hbm, 79, rfl⟩
abbrev main_call2_v6 : Ref sig .tc := ⟨.hbm, 80, rfl⟩
abbrev main_call2_v7 : Ref sig .tc := ⟨.hbm, 81, rfl⟩
abbrev main_call2_v8 : Ref sig .tc := ⟨.hbm, 82, rfl⟩
abbrev main_call2_v9 : Ref sig .tc := ⟨.hbm, 83, rfl⟩
abbrev main_call2_v10 : Ref sig .tc := ⟨.hbm, 84, rfl⟩
abbrev main_call2_v11 : Ref sig .tc := ⟨.hbm, 85, rfl⟩
abbrev main_call2_c_3 : Ref sig .tc := ⟨.hbm, 86, rfl⟩
abbrev main_call2_v12 : Ref sig .tc := ⟨.hbm, 87, rfl⟩
abbrev main_call2_v13 : Ref sig .tc := ⟨.hbm, 88, rfl⟩
abbrev main_call2_v14 : Ref sig .tc := ⟨.hbm, 89, rfl⟩
abbrev main_call2_cst : Ref sig .tc := ⟨.hbm, 90, rfl⟩
abbrev main_call2_v15 : Ref sig .tc := ⟨.hbm, 91, rfl⟩
abbrev main_v15 : Ref sig .tc := ⟨.hbm, 92, rfl⟩
abbrev main_call3_c : Ref sig .tc := ⟨.hbm, 93, rfl⟩
abbrev main_call3_v0 : Ref sig .tc := ⟨.hbm, 94, rfl⟩
abbrev main_call3_v1 : Ref sig .tc := ⟨.hbm, 95, rfl⟩
abbrev main_call3_c_0 : Ref sig .tc := ⟨.hbm, 96, rfl⟩
abbrev main_call3_v2 : Ref sig .tc := ⟨.hbm, 97, rfl⟩
abbrev main_call3_v3 : Ref sig .tc := ⟨.hbm, 98, rfl⟩
abbrev main_call3_v4 : Ref sig .tc := ⟨.hbm, 99, rfl⟩
abbrev main_call3_v5 : Ref sig .tc := ⟨.hbm, 100, rfl⟩
abbrev main_call3_c_1 : Ref sig .tc := ⟨.hbm, 101, rfl⟩
abbrev main_call3_c_2 : Ref sig .tc := ⟨.hbm, 102, rfl⟩
abbrev main_call3_v6 : Ref sig .tc := ⟨.hbm, 103, rfl⟩
abbrev main_call3_v7 : Ref sig .tc := ⟨.hbm, 104, rfl⟩
abbrev main_call3_v8 : Ref sig .tc := ⟨.hbm, 105, rfl⟩
abbrev main_call3_v9 : Ref sig .tc := ⟨.hbm, 106, rfl⟩
abbrev main_call3_v10 : Ref sig .tc := ⟨.hbm, 107, rfl⟩
abbrev main_call3_v11 : Ref sig .tc := ⟨.hbm, 108, rfl⟩
abbrev main_call3_c_3 : Ref sig .tc := ⟨.hbm, 109, rfl⟩
abbrev main_call3_v12 : Ref sig .tc := ⟨.hbm, 110, rfl⟩
abbrev main_call3_v13 : Ref sig .tc := ⟨.hbm, 111, rfl⟩
abbrev main_call3_v14 : Ref sig .tc := ⟨.hbm, 112, rfl⟩
abbrev main_call3_cst : Ref sig .tc := ⟨.hbm, 113, rfl⟩
abbrev main_call3_v15 : Ref sig .tc := ⟨.hbm, 114, rfl⟩
abbrev main_v16 : Ref sig .tc := ⟨.hbm, 115, rfl⟩
abbrev main_v17 : Ref sig .tc := ⟨.hbm, 116, rfl⟩
abbrev main_v18 : Ref sig .tc := ⟨.hbm, 117, rfl⟩
abbrev main_v19 : Ref sig .tc := ⟨.hbm, 118, rfl⟩
abbrev main_v20 : Ref sig .tc := ⟨.hbm, 119, rfl⟩
abbrev main_v21 : Ref sig .tc := ⟨.hbm, 120, rfl⟩
abbrev main_v22 : Ref sig .tc := ⟨.hbm, 121, rfl⟩
abbrev main_v23 : Ref sig .tc := ⟨.hbm, 122, rfl⟩
abbrev main_v24 : Ref sig .tc := ⟨.hbm, 123, rfl⟩
abbrev main_v25 : Ref sig .tc := ⟨.hbm, 124, rfl⟩
abbrev main_cst : Ref sig .tc := ⟨.hbm, 125, rfl⟩
abbrev main_v26 : Ref sig .tc := ⟨.hbm, 126, rfl⟩
abbrev main_v27 : Ref sig .tc := ⟨.hbm, 127, rfl⟩
abbrev main_cst_0 : Ref sig .tc := ⟨.hbm, 128, rfl⟩
abbrev main_v28 : Ref sig .tc := ⟨.hbm, 129, rfl⟩
abbrev main_v29 : Ref sig .tc := ⟨.hbm, 130, rfl⟩
abbrev main_c : Ref sig .tc := ⟨.hbm, 131, rfl⟩
abbrev main_call4_cst : Ref sig .tc := ⟨.hbm, 132, rfl⟩
abbrev main_call4_v0 : Ref sig .tc := ⟨.hbm, 133, rfl⟩
abbrev main_call4_v1 : Ref sig .tc := ⟨.hbm, 134, rfl⟩
abbrev main_call4_cst_0 : Ref sig .tc := ⟨.hbm, 135, rfl⟩
abbrev main_call4_v2 : Ref sig .tc := ⟨.hbm, 136, rfl⟩
abbrev main_call4_v3 : Ref sig .tc := ⟨.hbm, 137, rfl⟩
abbrev main_call4_v4 : Ref sig .tc := ⟨.hbm, 138, rfl⟩
abbrev main_call4_v5 : Ref sig .tc := ⟨.hbm, 139, rfl⟩
abbrev main_call4_v6 : Ref sig .tc := ⟨.hbm, 140, rfl⟩
abbrev main_call4_v7 : Ref sig .tc := ⟨.hbm, 141, rfl⟩
abbrev main_call4_cst_1 : Ref sig .tc := ⟨.hbm, 142, rfl⟩
abbrev main_call4_v8 : Ref sig .tc := ⟨.hbm, 143, rfl⟩
abbrev main_call4_cst_2 : Ref sig .tc := ⟨.hbm, 144, rfl⟩
abbrev main_call4_v9 : Ref sig .tc := ⟨.hbm, 145, rfl⟩
abbrev main_call4_v10 : Ref sig .tc := ⟨.hbm, 146, rfl⟩
abbrev main_call4_v11 : Ref sig .tc := ⟨.hbm, 147, rfl⟩
abbrev main_call4_v12 : Ref sig .tc := ⟨.hbm, 148, rfl⟩
abbrev main_call4_cst_3 : Ref sig .tc := ⟨.hbm, 149, rfl⟩
abbrev main_call4_v13 : Ref sig .tc := ⟨.hbm, 150, rfl⟩
abbrev main_call4_cst_4 : Ref sig .tc := ⟨.hbm, 151, rfl⟩
abbrev main_call4_call0_v0 : Ref sig .tc := ⟨.hbm, 152, rfl⟩
abbrev main_call4_call0_v1 : Ref sig .tc := ⟨.hbm, 153, rfl⟩
abbrev main_v30 : Ref sig .tc := ⟨.hbm, 154, rfl⟩
abbrev main_v31 : Ref sig .tc := ⟨.hbm, 155, rfl⟩
abbrev main_v32 : Ref sig .tc := ⟨.hbm, 156, rfl⟩
abbrev main_cst_1 : Ref sig .tc := ⟨.hbm, 157, rfl⟩
abbrev main_v33 : Ref sig .tc := ⟨.hbm, 158, rfl⟩
abbrev main_v34 : Ref sig .tc := ⟨.hbm, 159, rfl⟩
abbrev main_v35 : Ref sig .tc := ⟨.hbm, 160, rfl⟩
abbrev main_v36 : Ref sig .tc := ⟨.hbm, 161, rfl⟩
abbrev main_v37 : Ref sig .tc := ⟨.hbm, 162, rfl⟩
abbrev main_v38 : Ref sig .tc := ⟨.hbm, 163, rfl⟩
abbrev main_v39 : Ref sig .tc := ⟨.hbm, 164, rfl⟩
abbrev main_v40 : Ref sig .tc := ⟨.hbm, 165, rfl⟩
abbrev main_v41 : Ref sig .tc := ⟨.hbm, 166, rfl⟩
abbrev main_v42 : Ref sig .tc := ⟨.hbm, 167, rfl⟩
abbrev main_v43 : Ref sig .tc := ⟨.hbm, 168, rfl⟩
abbrev main_cst_2 : Ref sig .tc := ⟨.hbm, 169, rfl⟩
abbrev main_v44 : Ref sig .tc := ⟨.hbm, 170, rfl⟩
abbrev main_v45 : Ref sig .tc := ⟨.hbm, 171, rfl⟩
abbrev main_v46 : Ref sig .tc := ⟨.hbm, 172, rfl⟩
abbrev main_cst_3 : Ref sig .tc := ⟨.hbm, 173, rfl⟩
abbrev main_v47 : Ref sig .tc := ⟨.hbm, 174, rfl⟩
abbrev main_v48 : Ref sig .tc := ⟨.hbm, 175, rfl⟩
abbrev main_v49 : Ref sig .tc := ⟨.hbm, 176, rfl⟩
abbrev main_v50 : Ref sig .tc := ⟨.hbm, 177, rfl⟩

abbrev nD : Nat := 1
abbrev τ : Topo := Topo.v7x

variable {F : FTy → Type} [FloatOps F]
-- ==== Proof.Norm.lean ====
/- The layer norm and the GELU of one token's 128 features, as the kernel computes them and as the reference does, over the
   extended reals; on finite features the two are the same number. -/
module

public import Idealize.ShloMosaic.Lib.IdealHost
public import Idealize.ShloMosaic.PureOps.Ideal.Laws

@[expose] public section

noncomputable section

open Idealize.ShloMosaic

namespace Cert.TokenNorm

/-- The kernel's mean of a row: each feature times 1/128, summed. -/
def meanK (h : Fin 128 → EReal) : EReal := ∑ x, h x * Ideal.ofBits .f32 0x3C000000#32

/-- The kernel's normalised row: the variance is the mean of the squares less the square of the mean, and the row is scaled
    by the reciprocal root of the variance plus epsilon. -/
def normK (h : Fin 128 → EReal) (d : Fin 128) : EReal :=
  (h d - meanK h) * Ideal.rsqrt (∑ x, h x * h x * Ideal.ofBits .f32 0x3C000000#32 - meanK h * meanK h
    + Ideal.ofBits .f32 0x3727C5AC#32)

/-- The kernel's GELU of the normalised row: `n · (½ + ½ · erf (n · c))`. -/
def outK (h : Fin 128 → EReal) (d : Fin 128) : EReal :=
  normK h d * (Ideal.ofBits .f32 0x3F000000#32
    + Ideal.ofBits .f32 0x3F000000#32 * Ideal.erf (normK h d * Ideal.ofBits .f32 0x3F3504F3#32))

/-- The reference's mean of a row: the sum over 128. -/
def meanR (h : Fin 128 → EReal) : EReal := Ideal.div (∑ x, h x) (Ideal.ofBits .f32 0x43000000#32)

/-- The reference's variance: the mean of the squared distances from the mean. -/
def varR (h : Fin 128 → EReal) : EReal :=
  Ideal.div (∑ x, (h x - meanR h) * (h x - meanR h)) (Ideal.ofBits .f32 0x43000000#32)

/-- The reference's normalised row: the distance from the mean over the root of the variance plus epsilon. -/
def normR (h : Fin 128 → EReal) (d : Fin 128) : EReal :=
  Ideal.div (h d - meanR h) (Ideal.sqrt (varR h + Ideal.ofBits .f32 0x3727C5AC#32))

/-- The reference's GELU: `(½ · n) · erfc (−n · c)`. -/
def outR (n : EReal) : EReal :=
  Ideal.ofBits .f32 0x3F000000#32 * n * Ideal.erfc (-n * Ideal.ofBits .f32 0x3F3504F3#32)

/-! ## The constants -/

theorem word_128 : Ideal.ofBits .f32 0x43000000#32 = ((128 : ℝ) : EReal) := by
  simp [Ideal.ofBits, Ideal.ieee, -EReal.coe_mul]; norm_num

theorem word_inv128 : Ideal.ofBits .f32 0x3C000000#32 = ((1 / 128 : ℝ) : EReal) := by
  simp [Ideal.ofBits, Ideal.ieee, -EReal.coe_mul]; norm_num

theorem word_half : Ideal.ofBits .f32 0x3F000000#32 = ((1 / 2 : ℝ) : EReal) := by
  simp [Ideal.ofBits, Ideal.ieee, -EReal.coe_mul]; norm_num

/-- Epsilon is some positive real. -/
theorem word_eps : ∃ e : ℝ, 0 < e ∧ Ideal.ofBits .f32 0x3727C5AC#32 = (e : EReal) := by
  refine ⟨10995116 / 1099511627776, by norm_num, ?_⟩
  simp [Ideal.ofBits, Ideal.ieee, -EReal.coe_mul]; norm_num

/-! ## The two variances over the reals -/

/-- The mean of the squares less the square of the mean is the mean of the squared distances from the mean. -/
theorem var_real (g : Fin 128 → ℝ) :
    (∑ x, g x * g x * (1 / 128)) - (∑ x, g x * (1 / 128)) * (∑ x, g x * (1 / 128))
      = (∑ x, (g x - (∑ y, g y) * (1 / 128)) * (g x - (∑ y, g y) * (1 / 128))) * (1 / 128) := by
  have expand (μ : ℝ) : ∑ x, (g x - μ) * (g x - μ) = (∑ x, g x * g x) - 2 * μ * (∑ x, g x) + 128 * (μ * μ) := by
    have : ∀ x, (g x - μ) * (g x - μ) = g x * g x - 2 * μ * g x + μ * μ := fun x => by ring
    simp only [this, Finset.sum_add_distrib, Finset.sum_sub_distrib, ← Finset.mul_sum]
    simp only [Finset.sum_const, Finset.card_univ, Fintype.card_fin, nsmul_eq_mul]
    ring
  rw [expand, ← Finset.sum_mul, ← Finset.sum_mul]
  ring

theorem coe_sum {ι : Type} (s : Finset ι) (f : ι → ℝ) : ∑ x ∈ s, (f x : EReal) = ((∑ x ∈ s, f x : ℝ) : EReal) := by
  classical
  induction s using Finset.induction_on with
  | empty => simp
  | insert a s ha ih => rw [Finset.sum_insert ha, Finset.sum_insert ha, ih, EReal.coe_add]

/-! ## On finite features -/

variable (g : Fin 128 → ℝ)

theorem meanK_coe : meanK (fun x => (g x : EReal)) = (((∑ x, g x) * (1 / 128) : ℝ) : EReal) := by
  unfold meanK
  rw [word_inv128, Finset.sum_mul, ← coe_sum]
  exact Finset.sum_congr rfl fun x _ => (EReal.coe_mul _ _).symm

theorem meanR_coe : meanR (fun x => (g x : EReal)) = (((∑ x, g x) * (1 / 128) : ℝ) : EReal) := by
  unfold meanR
  rw [word_128, Ideal.div_coe (by norm_num), coe_sum, ← EReal.coe_mul]

/-- The normalised row is one finite number, computed either way. -/
theorem norm_coe (d : Fin 128) :
    ∃ n : ℝ, normK (fun x => (g x : EReal)) d = (n : EReal) ∧ normR (fun x => (g x : EReal)) d = (n : EReal) := by
  obtain ⟨e, he, hw⟩ := word_eps
  set μ : ℝ := (∑ x, g x) * (1 / 128) with hμ
  set v : ℝ := (∑ x, (g x - μ) * (g x - μ)) * (1 / 128) + e with hv
  have hpos : 0 < v := by
    have : 0 ≤ ∑ x, (g x - μ) * (g x - μ) := Finset.sum_nonneg fun x _ => mul_self_nonneg _
    rw [hv]; nlinarith
  have hroot : Real.sqrt v ≠ 0 := (Real.sqrt_pos.mpr hpos).ne'
  refine ⟨(g d - μ) * (Real.sqrt v)⁻¹, ?_, ?_⟩
  · have hvar : (∑ x, (g x : EReal) * (g x : EReal) * Ideal.ofBits .f32 0x3C000000#32) - (μ : EReal) * (μ : EReal)
        + Ideal.ofBits .f32 0x3727C5AC#32 = (v : EReal) := by
      rw [word_inv128, hw]
      simp only [← EReal.coe_mul, coe_sum, ← EReal.coe_sub, ← EReal.coe_add]
      have := var_real g
      simp only [← Finset.sum_mul] at this ⊢
      rw [this]
    unfold normK
    rw [meanK_coe, ← hμ, hvar, Ideal.rsqrt_coe, if_neg (not_lt.mpr hpos.le), if_neg hpos.ne', ← EReal.coe_sub, ← EReal.coe_mul]
  · unfold normR varR
    rw [meanR_coe, ← hμ]
    simp only [← EReal.coe_sub, ← EReal.coe_mul, coe_sum]
    rw [word_128, Ideal.div_coe (by norm_num), hw, ← EReal.coe_mul, ← EReal.coe_add, ← hv, Ideal.sqrt_coe,
      if_neg (not_lt.mpr hpos.le), Ideal.div_coe hroot, ← EReal.coe_mul, one_div]

/-- On finite features the kernel's output is the reference's: the norms agree, and `½ + ½ · erf z` is `½ · erfc (−z)`. -/
theorem out_eq (d : Fin 128) : outK (fun x => (g x : EReal)) d = outR (normR (fun x => (g x : EReal)) d) := by
  obtain ⟨n, hk, hr⟩ := norm_coe g d
  unfold outK outR
  rw [hk, hr, EReal.neg_mul, Ideal.erfc_neg, word_half]
  set z := (n : EReal) * Ideal.ofBits .f32 0x3F3504F3#32
  obtain ⟨E, hE⟩ : ∃ E : ℝ, Ideal.erf z = (E : EReal) := by
    induction z using EReal.rec with
    | bot => exact ⟨-1, by simp⟩
    | coe r => exact ⟨_, Ideal.erf_coe r⟩
    | top => exact ⟨1, by simp⟩
  rw [hE]
  norm_cast
  ring_nf

end Cert.TokenNorm

end
-- ==== Proof.Features.lean ====
/- One token's 128 features before the layer norm: the rows its four class numbers name in the four tables and its
   duration's 16 numbers, each times its own rows of the output weights. The arrays are functions on index, so that the
   kernel's and the reference's reading of the same arguments meet here. -/
module

public import Idealize.ShloMosaic.Lib.Pointwise
public import proofs.«01_k».proof.Proof.Norm

@[expose] public section

noncomputable section

open Idealize.ShloMosaic

namespace Cert.Features

/-- The class number a token's column holds, as a row of a table of four. -/
def cls (x : EReal) : Fin 4 := ⟨(Ideal.fptosi 32 x).toNat % 4, Nat.mod_lt _ (by decide)⟩

variable (x : Fin 5 → EReal) (et : Fin 4 → Fin 64 → EReal) (ed : Fin 4 → Fin 8 → EReal) (eh : Fin 4 → Fin 16 → EReal)
  (em : Fin 4 → Fin 8 → EReal) (wd : Fin 16 → EReal) (w : Fin 112 → Fin 128 → EReal)

/-- The token's feature `d`: a sum over the five pieces of the concatenated embedding. -/
def feat (d : Fin 128) : EReal :=
  ∑ k : Fin 64, et (cls (x 0)) k * w ⟨k, by omega⟩ d
  + (∑ k : Fin 8, ed (cls (x 1)) k * w ⟨64 + k, by omega⟩ d
  + (∑ k : Fin 16, eh (cls (x 2)) k * w ⟨72 + k, by omega⟩ d
  + (∑ k : Fin 8, em (cls (x 3)) k * w ⟨88 + k, by omega⟩ d
  + ∑ k : Fin 16, x 4 * wd k * w ⟨96 + k, by omega⟩ d)))

/-- The features of token `(b, l)`, read off the argument arrays. -/
def featAt (X : (⟨3, ![1024, 200, 5]⟩ : Shape).Idx → EReal) (T : (⟨2, ![100000, 64]⟩ : Shape).Idx → EReal)
    (D : (⟨2, ![7, 8]⟩ : Shape).Idx → EReal) (H : (⟨2, ![24, 16]⟩ : Shape).Idx → EReal) (M : (⟨2, ![4, 8]⟩ : Shape).Idx → EReal)
    (Wd : (⟨2, ![1, 16]⟩ : Shape).Idx → EReal) (W : (⟨2, ![112, 128]⟩ : Shape).Idx → EReal) (b : Fin 1024) (l : Fin 200) :
    Fin 128 → EReal :=
  feat (fun k => X (ix3 b l k)) (fun n k => T (ix2 ⟨n, by omega⟩ k)) (fun n k => D (ix2 ⟨n, by omega⟩ k))
    (fun n k => H (ix2 ⟨n, by omega⟩ k)) (fun n k => M (ix2 n k)) (fun k => Wd (ix2 0 k)) (fun k d => W (ix2 k d))

/-! ## Sums cut at the pieces' edges -/

/-- A sum over 112 positions, cut at the five pieces. -/
theorem sum112 (f : Fin 112 → EReal) : ∑ k, f k = ∑ k : Fin 64, f ⟨k, by omega⟩ + (∑ k : Fin 8, f ⟨64 + k, by omega⟩
    + (∑ k : Fin 16, f ⟨72 + k, by omega⟩ + (∑ k : Fin 8, f ⟨88 + k, by omega⟩ + ∑ k : Fin 16, f ⟨96 + k, by omega⟩))) := by
  refine (Fin.sum_univ_add (a := 64) (b := 48) f).trans (congrArg₂ (· + ·) rfl ?_)
  refine (Fin.sum_univ_add (a := 8) (b := 40) _).trans (congrArg₂ (· + ·) rfl ?_)
  refine (Fin.sum_univ_add (a := 16) (b := 24) _).trans (congrArg₂ (· + ·) ?_ ?_)
  · exact Finset.sum_congr rfl fun k _ => congrArg f (Fin.ext (by simp; omega))
  refine (Fin.sum_univ_add (a := 8) (b := 16) _).trans (congrArg₂ (· + ·) ?_ ?_)
  · exact Finset.sum_congr rfl fun k _ => congrArg f (Fin.ext (by simp; omega))
  · exact Finset.sum_congr rfl fun k _ => congrArg f (Fin.ext (by simp; omega))

/-- A sum over the kernel's 40 lanes: four tables of eight rows, the duration's lane, seven lanes over. -/
theorem sum40 (f : Fin 40 → EReal) : ∑ k, f k = ∑ k : Fin 8, f ⟨k, by omega⟩ + (∑ k : Fin 8, f ⟨8 + k, by omega⟩
    + (∑ k : Fin 8, f ⟨16 + k, by omega⟩ + (∑ k : Fin 8, f ⟨24 + k, by omega⟩
    + (f 32 + ∑ k : Fin 7, f ⟨33 + k, by omega⟩)))) := by
  refine (Fin.sum_univ_add (a := 8) (b := 32) f).trans (congrArg₂ (· + ·) rfl ?_)
  refine (Fin.sum_univ_add (a := 8) (b := 24) _).trans (congrArg₂ (· + ·) rfl ?_)
  refine (Fin.sum_univ_add (a := 8) (b := 16) _).trans (congrArg₂ (· + ·) ?_ ?_)
  · exact Finset.sum_congr rfl fun k _ => congrArg f (Fin.ext (by simp; omega))
  refine (Fin.sum_univ_add (a := 8) (b := 8) _).trans (congrArg₂ (· + ·) ?_ ?_)
  · exact Finset.sum_congr rfl fun k _ => congrArg f (Fin.ext (by simp; omega))
  refine (Fin.sum_univ_add (a := 1) (b := 7) _).trans (congrArg₂ (· + ·) ?_ ?_)
  · exact (Fin.sum_univ_one _).trans (congrArg f (Fin.ext (by simp)))
  · exact Finset.sum_congr rfl fun k _ => congrArg f (Fin.ext (by simp; omega))

/-- The concatenated embedding of a token at position `k`. -/
def comb (k : Fin 112) : EReal :=
  if h : k.val < 64 then et (cls (x 0)) ⟨k, h⟩
  else if h : k.val - 64 < 8 then ed (cls (x 1)) ⟨k - 64, h⟩
  else if h : k.val - 64 - 8 < 16 then eh (cls (x 2)) ⟨k - 64 - 8, h⟩
  else if h : k.val - 64 - 8 - 16 < 8 then em (cls (x 3)) ⟨k - 64 - 8 - 16, h⟩
  else x 4 * wd ⟨k - 64 - 8 - 16 - 8, by omega⟩

/-- The concatenated embedding times the output weights is the sum over its pieces. -/
theorem comb_sum (d : Fin 128) : ∑ k, comb x et ed eh em wd k * w k d = feat x et ed eh em wd w d := by
  rw [sum112]
  unfold feat comb
  refine congrArg₂ (· + ·) (Finset.sum_congr rfl fun k _ => ?_) (congrArg₂ (· + ·) (Finset.sum_congr rfl fun k _ => ?_)
    (congrArg₂ (· + ·) (Finset.sum_congr rfl fun k _ => ?_) (congrArg₂ (· + ·) (Finset.sum_congr rfl fun k _ => ?_)
      (Finset.sum_congr rfl fun k _ => ?_))))
  · rw [dif_pos k.isLt]
  · have hk := k.isLt
    rw [dif_neg (show ¬ 64 + k.val < 64 by omega), dif_pos (show 64 + k.val - 64 < 8 by omega)]
    exact congrArg₂ (· * ·) (congrArg _ (Fin.ext (show 64 + k.val - 64 = k.val by omega))) rfl
  · have hk := k.isLt
    rw [dif_neg (show ¬ 72 + k.val < 64 by omega), dif_neg (show ¬ 72 + k.val - 64 < 8 by omega),
      dif_pos (show 72 + k.val - 64 - 8 < 16 by omega)]
    exact congrArg₂ (· * ·) (congrArg _ (Fin.ext (show 72 + k.val - 64 - 8 = k.val by omega))) rfl
  · have hk := k.isLt
    rw [dif_neg (show ¬ 88 + k.val < 64 by omega), dif_neg (show ¬ 88 + k.val - 64 < 8 by omega),
      dif_neg (show ¬ 88 + k.val - 64 - 8 < 16 by omega), dif_pos (show 88 + k.val - 64 - 8 - 16 < 8 by omega)]
    exact congrArg₂ (· * ·) (congrArg _ (Fin.ext (show 88 + k.val - 64 - 8 - 16 = k.val by omega))) rfl
  · have hk := k.isLt
    rw [dif_neg (show ¬ 96 + k.val < 64 by omega), dif_neg (show ¬ 96 + k.val - 64 < 8 by omega),
      dif_neg (show ¬ 96 + k.val - 64 - 8 < 16 by omega), dif_neg (show ¬ 96 + k.val - 64 - 8 - 16 < 8 by omega)]
    exact congrArg₂ (· * ·) (congrArg (x 4 * wd ·) (Fin.ext (show 96 + k.val - 64 - 8 - 16 - 8 = k.val by omega))) rfl

/-- A one-hot row times eight entries picks the entry it names. -/
theorem pick (n : Fin 4) (f : Fin 8 → EReal) : ∑ k : Fin 8, (if n.val = k.val then (1 : EReal) else 0) * f k = f ⟨n, by omega⟩ := by
  rw [Finset.sum_eq_single ⟨n.val, by omega⟩ (fun k _ hk => by
    rw [if_neg (fun e => hk (Fin.ext e.symm)), zero_mul]) (fun h => absurd (Finset.mem_univ _) h)]
  rw [if_pos rfl, one_mul]

/-! ## On finite arguments -/

/-- On finite durations, tables and weights the features are finite. -/
theorem feat_finite (hx : ∃ r : ℝ, x 4 = r) (het : ∀ n k, ∃ r : ℝ, et n k = r) (hed : ∀ n k, ∃ r : ℝ, ed n k = r)
    (heh : ∀ n k, ∃ r : ℝ, eh n k = r) (hem : ∀ n k, ∃ r : ℝ, em n k = r) (hwd : ∀ k, ∃ r : ℝ, wd k = r)
    (hw : ∀ k d, ∃ r : ℝ, w k d = r) : ∃ g : Fin 128 → ℝ, feat x et ed eh em wd w = fun d => (g d : EReal) := by
  obtain ⟨x', hx⟩ := hx
  choose et' het using het
  choose ed' hed using hed
  choose eh' heh using heh
  choose em' hem using hem
  choose wd' hwd using hwd
  choose w' hw using hw
  have : ∀ d, ∃ r : ℝ, feat x et ed eh em wd w d = r := fun d => by
    unfold feat
    simp only [hx, het, hed, heh, hem, hwd, hw, ← EReal.coe_mul, TokenNorm.coe_sum, ← EReal.coe_add]
    exact ⟨_, rfl⟩
  choose g hg using this
  exact ⟨g, funext hg⟩

/-- A finite duration times the projected weights is the sum of its products with them. -/
theorem dur_mul (hx : ∃ r : ℝ, x 4 = r) (hwd : ∀ k, ∃ r : ℝ, wd k = r) (hw : ∀ k d, ∃ r : ℝ, w k d = r) (d : Fin 128) :
    x 4 * ∑ k : Fin 16, wd k * w ⟨96 + k, by omega⟩ d = ∑ k : Fin 16, x 4 * wd k * w ⟨96 + k, by omega⟩ d := by
  obtain ⟨x', hx⟩ := hx
  choose wd' hwd using hwd
  choose w' hw using hw
  simp only [hx, hwd, hw, ← EReal.coe_mul, TokenNorm.coe_sum, Finset.mul_sum, mul_assoc]

end Cert.Features

end
-- ==== Proof.Drawn.lean ====
/- What the precondition says of the arguments, array by array. -/
module

public import proofs.«01_k».proof.Proof.Gen.Pre_drawn
public import proofs.«01_k».proof.Proof.Features
public import Idealize.ShloMosaic.Lib.ReduceAll

@[expose] public section

set_option maxRecDepth 16384

noncomputable section

open Idealize.ShloMosaic

namespace Cert.Drawn

open Cert.Pre_drawn

/-- The precondition read: class numbers in [0, 4); the durations, the first four rows of each table and the weights finite;
    no bias, unit gain. -/
structure Args (x : FVec Ideal S1024x200x5 .f32) (et : FVec Ideal S100000x64 .f32) (ed : FVec Ideal S7x8 .f32)
    (eh : FVec Ideal S24x16 .f32) (em : FVec Ideal S4x8 .f32) (wd : FVec Ideal S1x16 .f32) (bd : FVec Ideal S16 .f32)
    (w : FVec Ideal S112x128 .f32) (bo g b : FVec Ideal S128 .f32) : Prop where
  cls : ∀ (i : Fin 1024) (l : Fin 200) (k : Fin 4), 0 ≤ x (ix3 i l ⟨k, by omega⟩) ∧ x (ix3 i l ⟨k, by omega⟩) < 4
  dur : ∀ (i : Fin 1024) (l : Fin 200), ∃ r : ℝ, x (ix3 i l 4) = r
  task : ∀ (n : Fin 4) (k : Fin 64), ∃ r : ℝ, et (ix2 ⟨n, by omega⟩ k) = r
  dow : ∀ (n : Fin 4) (k : Fin 8), ∃ r : ℝ, ed (ix2 ⟨n, by omega⟩ k) = r
  hour : ∀ (n : Fin 4) (k : Fin 16), ∃ r : ℝ, eh (ix2 ⟨n, by omega⟩ k) = r
  minute : ∀ (n : Fin 4) (k : Fin 8), ∃ r : ℝ, em (ix2 n k) = r
  wdur : ∀ k : Fin 16, ∃ r : ℝ, wd (ix2 0 k) = r
  wout : ∀ (k : Fin 112) (d : Fin 128), ∃ r : ℝ, w (ix2 k d) = r
  bdur : ∀ k : Fin 16, bd (ix1 k) = 0
  bout : ∀ d : Fin 128, bo (ix1 d) = 0
  gain : ∀ d : Fin 128, g (ix1 d) = 1
  bias : ∀ d : Fin 128, b (ix1 d) = 0

/-- The word the finiteness test compares with is infinity. -/
theorem word_inf : Ideal.ofBits .f32 0x7F800000#32 = ⊤ := by simp [Ideal.ofBits, Ideal.ieee]

theorem word_four : Ideal.ofBits .f32 0x40800000#32 = 4 := by
  have : ((4 : ℝ) : EReal) = 4 := rfl
  rw [← this]; simp [Ideal.ofBits, Ideal.ieee, -EReal.coe_mul]; norm_num

/-- A number whose size compares below infinity is a real. -/
theorem real_of_abs {a : EReal} (h : FloatOps.absf (F := Ideal) (φ := .f32) a < Ideal.ofBits .f32 0x7F800000#32) : ∃ r : ℝ, a = r := by
  rw [word_inf] at h
  induction a using EReal.rec with
  | bot => exact absurd h (by simp [Ideal.absf_def])
  | coe r => exact ⟨r, rfl⟩
  | top => exact absurd h (by simp [Ideal.absf_def])

theorem bit_true {p : Prop} [Decidable p] (h : BitVec.ofBool (decide p) = 1#1) : p := by
  by_contra hp
  rw [decide_eq_false hp] at h
  exact absurd h (by decide)

variable {x : FVec Ideal S1024x200x5 .f32} {et : FVec Ideal S100000x64 .f32} {ed : FVec Ideal S7x8 .f32}
  {eh : FVec Ideal S24x16 .f32} {em : FVec Ideal S4x8 .f32} {wd : FVec Ideal S1x16 .f32} {bd : FVec Ideal S16 .f32}
  {w : FVec Ideal S112x128 .f32} {bo g b : FVec Ideal S128 .f32}

/-- The precondition, all ones, gives each of those facts: its conjunction split, and each reduction by `and` read at every index. -/
theorem args_of_pre (h : fn (F := Ideal) x et ed eh em wd bd w bo g b = fun _ => 1#1) : Args x et ed eh em wd bd w bo g b := by
  have h := congrFun h ix0
  unfold fn fn_part1 fn_part2 fn_part3 at h
  simp only [andi, IntOp.andi_eq_one] at h
  obtain ⟨⟨⟨⟨⟨⟨⟨⟨⟨⟨⟨h0, h1⟩, h2⟩, h3⟩, h4⟩, h5⟩, h6⟩, h7⟩, h8⟩, h9⟩, h10⟩, h11⟩ := h
  replace h0 := fun i => Host.reduce_andi_all _ _ _ _ _ h0 i
  replace h1 := fun i => Host.reduce_andi_all _ _ _ _ _ h1 i
  replace h2 := fun i => Host.reduce_andi_all _ _ _ _ _ h2 i
  replace h3 := fun i => Host.reduce_andi_all _ _ _ _ _ h3 i
  replace h4 := fun i => Host.reduce_andi_all _ _ _ _ _ h4 i
  replace h5 := fun i => Host.reduce_andi_all _ _ _ _ _ h5 i
  replace h6 := fun i => Host.reduce_andi_all _ _ _ _ _ h6 i
  replace h7 := fun i => Host.reduce_andi_all _ _ _ _ _ h7 i
  replace h8 := fun i => Host.reduce_andi_all _ _ _ _ _ h8 i
  replace h9 := fun i => Host.reduce_andi_all _ _ _ _ _ h9 i
  replace h10 := fun i => Host.reduce_andi_all _ _ _ _ _ h10 i
  replace h11 := fun i => Host.reduce_andi_all _ _ _ _ _ h11 i
  constructor
  · intro i l k
    have t := h0 (ix3 i l k)
    pointwise at t
    rw [IntOp.andi_eq_one, word_four] at t
    exact ⟨bit_true t.1, bit_true t.2⟩
  · intro i l
    have t := h1 (ix3 i l 0)
    pointwise at t
    exact real_of_abs (bit_true t)
  · intro n k
    have t := h2 (ix2 n k)
    pointwise at t
    exact real_of_abs (bit_true t)
  · intro n k
    have t := h3 (ix2 n k)
    pointwise at t
    exact real_of_abs (bit_true t)
  · intro n k
    have t := h4 (ix2 n k)
    pointwise at t
    exact real_of_abs (bit_true t)
  · intro n k
    have t := h5 (ix2 n k)
    pointwise at t
    exact real_of_abs (bit_true t)
  · intro k
    have t := h6 (ix2 0 k)
    pointwise at t
    exact real_of_abs (bit_true t)
  · intro k d
    have t := h7 (ix2 k d)
    pointwise at t
    exact real_of_abs (bit_true t)
  · intro k
    have t := h8 (ix1 k)
    pointwise at t
    exact bit_true t
  · intro d
    have t := h9 (ix1 d)
    pointwise at t
    exact bit_true t
  · intro d
    have t := h10 (ix1 d)
    pointwise at t
    exact bit_true t
  · intro d
    have t := h11 (ix1 d)
    pointwise at t
    exact bit_true t

/-- A class number in [0, 4) converts to the word of its row. -/
theorem word_of_class {a : EReal} (h0 : 0 ≤ a) (h4 : a < 4) : Ideal.fptosi 32 a = BitVec.ofNat 32 (Features.cls a).val := by
  have key : ∃ z : ℤ, 0 ≤ z ∧ z < 4 ∧ Ideal.fptosi 32 a = BitVec.ofInt 32 z := by
    induction a using EReal.rec with
    | bot => exact absurd h0 (by simp)
    | top => exact absurd h4 (by simp)
    | coe r =>
      have r0 : (0 : ℝ) ≤ r := by exact_mod_cast h0
      have r4 : r < 4 := by
        have : ((4 : ℝ) : EReal) = 4 := rfl
        rw [← this] at h4; exact_mod_cast h4
      have z0 : 0 ≤ ⌊r⌋ := Int.floor_nonneg.mpr r0
      have z4 : ⌊r⌋ < 4 := Int.floor_lt.mpr (by exact_mod_cast r4)
      refine ⟨⌊r⌋, z0, z4, ?_⟩
      rw [Ideal.fptosi, Ideal.toIntClamped_coe, if_pos r0, min_eq_right (by norm_num; omega), max_eq_right (by norm_num; omega)]
  obtain ⟨z, z0, z4, hz⟩ := key
  show Ideal.fptosi 32 a = BitVec.ofNat 32 ((Ideal.fptosi 32 a).toNat % 4)
  rw [hz]
  interval_cases z <;> rfl

end Cert.Drawn

end
-- ==== Proof.Keys.lean ====
/- The kernel's left factor, lane by lane: lanes 0–31 are the one-hot rows of the token's four class numbers, lane 32 its
   duration, lanes 33–39 nothing. -/
module

public import proofs.«01_k».proof.Proof.Gen.KernelIdeal.Skeleton
public import proofs.«01_k».proof.Proof.Drawn

@[expose] public section

set_option maxRecDepth 16384

noncomputable section

open Idealize.ShloMosaic Idealize.ShloMosaic.TcCoe
open Cert.KernelIdeal Cert.KernelIdeal.Gen

namespace Cert.KernelIdeal.Keys

/-- The two index grids of the 5 × 40 matrix that spreads a token's columns over the lanes. -/
abbrev rows5 : IVec S5x40 32 := iota .tc S5x40 32 [0] iota_S5x40_d0_w32
abbrev cols40 : IVec S5x40 32 := iota .tc S5x40 32 [1] iota_S5x40_d1_w32

/-- The spread columns of a block, and their one-hot rows. -/
abbrev keysOf (x : Vec Ideal S16x200x5 .f32) : FVec Ideal S3200x40 .f32 := k0_pay6 rows5 cols40 k0_pay3 8#32 k0_pay4 k0_pay5 x
abbrev hotOf (x : Vec Ideal S16x200x5 .f32) : FVec Ideal S3200x40 .f32 := k0_pay7 rows5 cols40 k0_pay3 8#32 k0_pay4 k0_pay5 x

/-- The spreading matrix's bit: 1 at column `j / 8` of a class lane, and at column 4 of lane 32. -/
theorem spread_bit : ∀ (j : Fin 40) (k : Fin 5),
    IntOp.ori
      (IntOp.andi (IntOp.cmpi .slt (BitVec.ofNat 32 j.val) 32#32)
        (IntOp.cmpi .eq (BitVec.ofNat 32 k.val)
          (Scalar.select
            (IntOp.andi
              (IntOp.cmpi .ne
                (IntOp.subi (BitVec.setWidth 32 (IntOp.cmpi .sgt (BitVec.ofNat 32 j.val) 0#32))
                  (BitVec.setWidth 32 (IntOp.cmpi .slt (BitVec.ofNat 32 j.val) 0#32)))
                (Scalar.subi (Scalar.extui (Scalar.cmpi .sgt 8#32 0#32)) (Scalar.extui (Scalar.cmpi .slt 8#32 0#32))))
              (IntOp.cmpi .ne (IntOp.remsi .vector (BitVec.ofNat 32 j.val) 8#32) 0#32))
            (IntOp.subi (IntOp.divsi .vector (BitVec.ofNat 32 j.val) 8#32) 1#32)
            (IntOp.divsi .vector (BitVec.ofNat 32 j.val) 8#32))))
      (IntOp.andi (IntOp.cmpi .eq (BitVec.ofNat 32 k.val) 4#32) (IntOp.cmpi .eq (BitVec.ofNat 32 j.val) 32#32))
    = if (j.val < 32 ∧ k.val = j.val / 8) ∨ (j.val = 32 ∧ k.val = 4) then 1#1 else 0#1 := by
  decide +kernel

/-- A bit widened and converted is the number 1 or 0. -/
theorem bit_number (p : Prop) [Decidable p] :
    FloatOps.sitofp (F := Ideal) .f32 (BitVec.setWidth 32 (if p then 1#1 else 0#1)) = if p then (1 : EReal) else 0 := by
  by_cases h : p
  · rw [if_pos h, if_pos h]
    show ((((1#32 : BitVec 32).toInt : ℝ)) : EReal) = 1
    simp
  · rw [if_neg h, if_neg h]
    show ((((0#32 : BitVec 32).toInt : ℝ)) : EReal) = 0
    simp

/-- The spread columns read at token `(b, l)` and lane `j`. -/
theorem keys_apply (x : Vec Ideal S16x200x5 .f32) (b : Fin 16) (l : Fin 200) (j : Fin 40) :
    keysOf x (ix2 ⟨b * 200 + l, by omega⟩ j) = if h : j.val < 32 then x (ix3 b l ⟨j / 8, by omega⟩)
      else if j.val = 32 then x (ix3 b l 4) else 0 := by
  pointwise [k0_pay6, k0_pay3, k0_pay4, k0_pay5]
  refine (Finset.sum_congr rfl fun k _ => congrArg (x (ix3 b l k) * ·)
    ((congrArg (fun w => FloatOps.sitofp (F := Ideal) .f32 (BitVec.setWidth 32 w)) (spread_bit j k)).trans (bit_number _))).trans ?_
  have single (k₀ : Fin 5) (hk : ∀ k : Fin 5, ((j.val < 32 ∧ k.val = j.val / 8) ∨ (j.val = 32 ∧ k.val = 4)) ↔ k = k₀) :
      ∑ k : Fin 5, x (ix3 b l k) * (if (j.val < 32 ∧ k.val = j.val / 8) ∨ (j.val = 32 ∧ k.val = 4) then (1 : EReal) else 0)
        = x (ix3 b l k₀) := by
    rw [Finset.sum_eq_single k₀ (fun k _ h => by rw [if_neg (fun e => h ((hk k).mp e)), mul_zero])
      (fun h => absurd (Finset.mem_univ _) h), if_pos ((hk k₀).mpr rfl), mul_one]
  by_cases h : j.val < 32
  · rw [dif_pos h]
    exact single ⟨j / 8, by omega⟩ fun k => by rw [Fin.ext_iff]; show _ ↔ k.val = j.val / 8; omega
  · rw [dif_neg h]
    by_cases h' : j.val = 32
    · rw [if_pos h']
      exact single 4 fun k => by rw [Fin.ext_iff]; show _ ↔ k.val = 4; omega
    · rw [if_neg h']
      exact Finset.sum_eq_zero fun k _ => by rw [if_neg (by omega), mul_zero]

/-- The one-hot rows read at token `(b, l)` and lane `j`. -/
theorem hot_apply (x : Vec Ideal S16x200x5 .f32) (b : Fin 16) (l : Fin 200) (j : Fin 40)
    (hx : ∀ k : Fin 4, Ideal.fptosi 32 (x (ix3 b l ⟨k, by omega⟩)) = BitVec.ofNat 32 (Features.cls (x (ix3 b l ⟨k, by omega⟩))).val)
    (hj : j.val ≠ 32) :
    hotOf x (ix2 ⟨b * 200 + l, by omega⟩ j) = if h : j.val < 32 then
      (if (Features.cls (x (ix3 b l ⟨j / 8, by omega⟩))).val = j.val % 8 then 1 else 0) else 0 := by
  have hlt := j.isLt
  have word_eq : ∀ (n : Fin 4) (j : Fin 40), j.val < 32 →
      IntOp.cmpi .eq (BitVec.ofNat 32 n.val) (Scalar.select (IntOp.cmpi .slt (BitVec.ofNat 32 j.val) 32#32)
        (IntOp.andi (BitVec.ofNat 32 j.val) 7#32) 4293967296#32) = if n.val = j.val % 8 then 1#1 else 0#1 := by
    decide +kernel
  have none_eq : ∀ j : Fin 40, 32 < j.val →
      IntOp.cmpi .eq (0#32 : BitVec 32) (Scalar.select (IntOp.cmpi .slt (BitVec.ofNat 32 j.val) 32#32)
        (IntOp.andi (BitVec.ofNat 32 j.val) 7#32) 4293967296#32) = 0#1 := by
    decide +kernel
  have hk := keys_apply x b l j
  pointwise [k0_pay7]
  rw [show k0_pay6 (iota .tc S5x40 32 [0] iota_S5x40_d0_w32) (iota .tc S5x40 32 [1] iota_S5x40_d1_w32) k0_pay3 8#32 k0_pay4
    k0_pay5 x (ix2 ⟨b * 200 + l, by omega⟩ j) = _ from hk]
  by_cases h : j.val < 32
  · rw [dif_pos h, dif_pos h]
    rw [show FloatOps.fptosi (F := Ideal) 32 (x (ix3 b l ⟨j / 8, by omega⟩)) = _ from hx ⟨j / 8, by omega⟩]
    rw [word_eq _ j h, bit_number]
  · rw [dif_neg h, dif_neg h, if_neg hj]
    have hz : FloatOps.fptosi (F := Ideal) (φ := .f32) 32 (0 : EReal) = 0#32 := by
      show Ideal.fptosi 32 ((0 : ℝ) : EReal) = 0#32
      rw [Ideal.fptosi, Ideal.toIntClamped_coe]; norm_num
    rw [hz, none_eq j (by omega)]
    exact bit_number False

/-- The lane that is taken from the spread columns. -/
theorem lane_bit : ∀ j : Fin 40, IntOp.cmpi .eq (BitVec.ofNat 32 j.val) 32#32 = if j.val = 32 then 1#1 else 0#1 := by
  decide +kernel

end Cert.KernelIdeal.Keys

end
-- ==== Proof.Block.lean ====
/- One grid point's block of the kernel, read at a token and a feature: the projected table, the features, and the normalised
   row's GELU. -/
module

public import proofs.«01_k».proof.Proof.Keys
public import proofs.«01_k».proof.Proof.Features

@[expose] public section

set_option maxRecDepth 16384

noncomputable section

open Idealize.ShloMosaic Idealize.ShloMosaic.TcCoe
open Cert.KernelIdeal Cert.KernelIdeal.Gen Cert.KernelIdeal.Keys

namespace Cert.KernelIdeal.Block

/-! ## The projected table -/

section Table

variable (p0 : Vec Ideal S8x64 .f32) (q0 : Vec Ideal S64x128 .f32) (p1 : Vec Ideal S8x8 .f32) (q1 : Vec Ideal S8x128 .f32)
  (p2 : Vec Ideal S8x16 .f32) (q2 : Vec Ideal S16x128 .f32) (p3 : Vec Ideal S8x8 .f32) (q3 : Vec Ideal S8x128 .f32)
  (p4 : Vec Ideal S1x16 .f32) (q4 : Vec Ideal S16x128 .f32)

/-- Row `r` of the projected table, by the piece it lies in. -/
theorem table_apply (r : Fin 40) (d : Fin 128) : k0_pay2 p0 q0 p1 q1 p2 q2 p3 q3 p4 q4 (ix2 r d) =
    if h : r.val < 8 then ∑ k : Fin 64, p0 (ix2 ⟨r, h⟩ k) * q0 (ix2 k d)
    else if h : r.val - 8 < 8 then ∑ k : Fin 8, p1 (ix2 ⟨r - 8, h⟩ k) * q1 (ix2 k d)
    else if h : r.val - 8 - 8 < 8 then ∑ k : Fin 16, p2 (ix2 ⟨r - 8 - 8, h⟩ k) * q2 (ix2 k d)
    else if h : r.val - 8 - 8 - 8 < 8 then ∑ k : Fin 8, p3 (ix2 ⟨r - 8 - 8 - 8, h⟩ k) * q3 (ix2 k d)
    else if h : r.val - 8 - 8 - 8 - 8 < 1 then ∑ k : Fin 16, p4 (ix2 ⟨r - 8 - 8 - 8 - 8, h⟩ k) * q4 (ix2 k d)
    else 0 := by
  pointwise [k0_pay2]

/-- The rows of the first class's table, of the second's, the third's, the fourth's, and of the duration's weights. -/
theorem table0 (n : Fin 8) (d : Fin 128) : k0_pay2 p0 q0 p1 q1 p2 q2 p3 q3 p4 q4 (ix2 ⟨n, by omega⟩ d)
    = ∑ k : Fin 64, p0 (ix2 n k) * q0 (ix2 k d) := by
  rw [table_apply, dif_pos n.isLt]

theorem table1 (n : Fin 8) (d : Fin 128) : k0_pay2 p0 q0 p1 q1 p2 q2 p3 q3 p4 q4 (ix2 ⟨8 + n, by omega⟩ d)
    = ∑ k : Fin 8, p1 (ix2 n k) * q1 (ix2 k d) := by
  have hn := n.isLt
  rw [table_apply, dif_neg (show ¬ 8 + n.val < 8 by omega), dif_pos (show 8 + n.val - 8 < 8 by omega)]
  exact Finset.sum_congr rfl fun k _ => congrArg (fun i => p1 (ix2 i k) * q1 (ix2 k d)) (Fin.ext (show 8 + n.val - 8 = n.val by omega))

theorem table2 (n : Fin 8) (d : Fin 128) : k0_pay2 p0 q0 p1 q1 p2 q2 p3 q3 p4 q4 (ix2 ⟨16 + n, by omega⟩ d)
    = ∑ k : Fin 16, p2 (ix2 n k) * q2 (ix2 k d) := by
  have hn := n.isLt
  rw [table_apply, dif_neg (show ¬ 16 + n.val < 8 by omega), dif_neg (show ¬ 16 + n.val - 8 < 8 by omega),
    dif_pos (show 16 + n.val - 8 - 8 < 8 by omega)]
  exact Finset.sum_congr rfl fun k _ => congrArg (fun i => p2 (ix2 i k) * q2 (ix2 k d))
    (Fin.ext (show 16 + n.val - 8 - 8 = n.val by omega))

theorem table3 (n : Fin 8) (d : Fin 128) : k0_pay2 p0 q0 p1 q1 p2 q2 p3 q3 p4 q4 (ix2 ⟨24 + n, by omega⟩ d)
    = ∑ k : Fin 8, p3 (ix2 n k) * q3 (ix2 k d) := by
  have hn := n.isLt
  rw [table_apply, dif_neg (show ¬ 24 + n.val < 8 by omega), dif_neg (show ¬ 24 + n.val - 8 < 8 by omega),
    dif_neg (show ¬ 24 + n.val - 8 - 8 < 8 by omega), dif_pos (show 24 + n.val - 8 - 8 - 8 < 8 by omega)]
  exact Finset.sum_congr rfl fun k _ => congrArg (fun i => p3 (ix2 i k) * q3 (ix2 k d))
    (Fin.ext (show 24 + n.val - 8 - 8 - 8 = n.val by omega))

theorem table4 (d : Fin 128) : k0_pay2 p0 q0 p1 q1 p2 q2 p3 q3 p4 q4 (ix2 32 d) = ∑ k : Fin 16, p4 (ix2 0 k) * q4 (ix2 k d) := by
  rw [table_apply, dif_neg (by decide), dif_neg (by decide), dif_neg (by decide), dif_neg (by decide), dif_pos (by decide)]
  rfl

end Table

/-! ## The features -/

/-- The lane of the left factor. -/
abbrev lane (x : Vec Ideal S16x200x5 .f32) (r : Fin 3200) (k : Fin 40) : EReal :=
  Scalar.select (k0_pay8 (ix2 r k)) (keysOf x (ix2 r k)) (hotOf x (ix2 r k))

theorem pay8_apply (r : Fin 3200) (k : Fin 40) : k0_pay8 (ix2 r k) = if k.val = 32 then 1#1 else 0#1 := by
  pointwise [k0_pay8]
  exact lane_bit k

section Token

variable (x : Vec Ideal S16x200x5 .f32) (b : Fin 16) (l : Fin 200)

/-- A class lane, lane 32, and the lanes over. -/
theorem lane_class
    (hx : ∀ k : Fin 4, Ideal.fptosi 32 (x (ix3 b l ⟨k, by omega⟩)) = BitVec.ofNat 32 (Features.cls (x (ix3 b l ⟨k, by omega⟩))).val)
    (j : Fin 40) (c : Fin 5) (n : Fin 8) (hc : c.val < 4) (hj : j.val = 8 * c + n) :
    lane x ⟨b * 200 + l, by omega⟩ j = if (Features.cls (x (ix3 b l c))).val = n.val then 1 else 0 := by
  have h8 : j.val / 8 = c.val := by omega
  have hm : j.val % 8 = n.val := by omega
  unfold lane
  rw [pay8_apply, if_neg (show ¬ j.val = 32 by omega)]
  refine (hot_apply x b l j hx (by omega)).trans ?_
  rw [dif_pos (show j.val < 32 by omega), hm]
  rw [show (⟨j.val / 8, by omega⟩ : Fin 5) = c from Fin.ext h8]

theorem lane_dur : lane x ⟨b * 200 + l, by omega⟩ 32 = x (ix3 b l 4) := by
  unfold lane
  rw [pay8_apply, if_pos (show (32 : Fin 40).val = 32 from rfl)]
  refine (keys_apply x b l 32).trans ?_
  rw [dif_neg (by decide), if_pos (show (32 : Fin 40).val = 32 from rfl)]

theorem lane_over
    (hx : ∀ k : Fin 4, Ideal.fptosi 32 (x (ix3 b l ⟨k, by omega⟩)) = BitVec.ofNat 32 (Features.cls (x (ix3 b l ⟨k, by omega⟩))).val)
    (j : Fin 40) (hj : 32 < j.val) : lane x ⟨b * 200 + l, by omega⟩ j = 0 := by
  unfold lane
  rw [pay8_apply, if_neg (show ¬ j.val = 32 by omega)]
  refine (hot_apply x b l j hx (by omega)).trans ?_
  rw [dif_neg (show ¬ j.val < 32 by omega)]

variable (p0 : Vec Ideal S8x64 .f32) (q0 : Vec Ideal S64x128 .f32) (p1 : Vec Ideal S8x8 .f32) (q1 : Vec Ideal S8x128 .f32)
  (p2 : Vec Ideal S8x16 .f32) (q2 : Vec Ideal S16x128 .f32) (p3 : Vec Ideal S8x8 .f32) (q3 : Vec Ideal S8x128 .f32)
  (p4 : Vec Ideal S1x16 .f32) (q4 : Vec Ideal S16x128 .f32)
  (et : Fin 4 → Fin 64 → EReal) (ed : Fin 4 → Fin 8 → EReal) (eh : Fin 4 → Fin 16 → EReal)
  (em : Fin 4 → Fin 8 → EReal) (wd : Fin 16 → EReal) (w : Fin 112 → Fin 128 → EReal)

/-- What the loaded pieces are: the first four rows of each table, and the pieces of the weights. -/
structure Loaded : Prop where
  task : ∀ (n : Fin 4) k, p0 (ix2 ⟨n, by omega⟩ k) = et n k
  dow : ∀ (n : Fin 4) k, p1 (ix2 ⟨n, by omega⟩ k) = ed n k
  hour : ∀ (n : Fin 4) k, p2 (ix2 ⟨n, by omega⟩ k) = eh n k
  minute : ∀ (n : Fin 4) k, p3 (ix2 ⟨n, by omega⟩ k) = em n k
  wdur : ∀ k, p4 (ix2 0 k) = wd k
  w0 : ∀ (k : Fin 64) d, q0 (ix2 k d) = w ⟨k, by omega⟩ d
  w1 : ∀ (k : Fin 8) d, q1 (ix2 k d) = w ⟨64 + k, by omega⟩ d
  w2 : ∀ (k : Fin 16) d, q2 (ix2 k d) = w ⟨72 + k, by omega⟩ d
  w3 : ∀ (k : Fin 8) d, q3 (ix2 k d) = w ⟨88 + k, by omega⟩ d
  w4 : ∀ (k : Fin 16) d, q4 (ix2 k d) = w ⟨96 + k, by omega⟩ d

/-- What is known of the token and of the entries: class numbers convert to their words; everything else is finite. -/
structure Good : Prop where
  word : ∀ k : Fin 4, Ideal.fptosi 32 (x (ix3 b l ⟨k, by omega⟩)) = BitVec.ofNat 32 (Features.cls (x (ix3 b l ⟨k, by omega⟩))).val
  dur : ∃ r : ℝ, x (ix3 b l 4) = r
  task : ∀ n k, ∃ r : ℝ, et n k = r
  dow : ∀ n k, ∃ r : ℝ, ed n k = r
  hour : ∀ n k, ∃ r : ℝ, eh n k = r
  minute : ∀ n k, ∃ r : ℝ, em n k = r
  wdur : ∀ k, ∃ r : ℝ, wd k = r
  wout : ∀ k d, ∃ r : ℝ, w k d = r

variable {x b l p0 q0 p1 q1 p2 q2 p3 q3 p4 q4 et ed eh em wd w}

/-- The left factor's row times the projected table is the token's features. -/
theorem features_apply (hl : Loaded p0 q0 p1 q1 p2 q2 p3 q3 p4 q4 et ed eh em wd w) (hg : Good x b l et ed eh em wd w) (d : Fin 128) :
    ∑ k : Fin 40, lane x ⟨b * 200 + l, by omega⟩ k * k0_pay2 p0 q0 p1 q1 p2 q2 p3 q3 p4 q4 (ix2 k d)
      = Features.feat (fun k => x (ix3 b l k)) et ed eh em wd w d := by
  rw [Features.sum40]
  unfold Features.feat
  refine congrArg₂ (· + ·) ?_ (congrArg₂ (· + ·) ?_ (congrArg₂ (· + ·) ?_ (congrArg₂ (· + ·) ?_ ?_)))
  · refine (Finset.sum_congr rfl fun (n : Fin 8) _ => congrArg₂ (· * ·) (lane_class x b l hg.word ⟨n, by omega⟩ 0 n (by decide)
      (show n.val = 8 * 0 + n.val by omega)) (table0 p0 q0 p1 q1 p2 q2 p3 q3 p4 q4 n d)).trans ((Features.pick _ _).trans ?_)
    exact Finset.sum_congr rfl fun k _ => congrArg₂ (· * ·) (hl.task _ k) (hl.w0 k d)
  · refine (Finset.sum_congr rfl fun (n : Fin 8) _ => congrArg₂ (· * ·) (lane_class x b l hg.word ⟨8 + n, by omega⟩ 1 n (by decide)
      (show 8 + n.val = 8 * 1 + n.val by omega)) (table1 p0 q0 p1 q1 p2 q2 p3 q3 p4 q4 n d)).trans ((Features.pick _ _).trans ?_)
    exact Finset.sum_congr rfl fun k _ => congrArg₂ (· * ·) (hl.dow _ k) (hl.w1 k d)
  · refine (Finset.sum_congr rfl fun (n : Fin 8) _ => congrArg₂ (· * ·) (lane_class x b l hg.word ⟨16 + n, by omega⟩ 2 n (by decide)
      (show 16 + n.val = 8 * 2 + n.val by omega)) (table2 p0 q0 p1 q1 p2 q2 p3 q3 p4 q4 n d)).trans ((Features.pick _ _).trans ?_)
    exact Finset.sum_congr rfl fun k _ => congrArg₂ (· * ·) (hl.hour _ k) (hl.w2 k d)
  · refine (Finset.sum_congr rfl fun (n : Fin 8) _ => congrArg₂ (· * ·) (lane_class x b l hg.word ⟨24 + n, by omega⟩ 3 n (by decide)
      (show 24 + n.val = 8 * 3 + n.val by omega)) (table3 p0 q0 p1 q1 p2 q2 p3 q3 p4 q4 n d)).trans ((Features.pick _ _).trans ?_)
    exact Finset.sum_congr rfl fun k _ => congrArg₂ (· * ·) (hl.minute _ k) (hl.w3 k d)
  · rw [Finset.sum_eq_zero (fun (n : Fin 7) _ => by
      rw [lane_over x b l hg.word ⟨33 + n, by omega⟩ (show 32 < 33 + n.val by omega), zero_mul]), add_zero, lane_dur, table4]
    rw [Finset.sum_congr rfl fun k _ => congrArg₂ (· * ·) (hl.wdur k) (hl.w4 k d)]
    exact Features.dur_mul (fun k => x (ix3 b l k)) wd w hg.dur hg.wdur hg.wout d

/-- What the body stores, at token `(b, l)` and feature `d`: the GELU of the token's normalised features. -/
theorem stored (hl : Loaded p0 q0 p1 q1 p2 q2 p3 q3 p4 q4 et ed eh em wd w) (hg : Good x b l et ed eh em wd w) (d : Fin 128) :
    k0_pay1 (k0_pay2 p0 q0 p1 q1 p2 q2 p3 q3 p4 q4) (keysOf x) (hotOf x) k0_pay8 (ix3 b l d)
      = TokenNorm.outR (TokenNorm.normR (Features.feat (fun k => x (ix3 b l k)) et ed eh em wd w) d) := by
  have read (v0 : FVec Ideal S40x128 .f32) (v2 v4 : FVec Ideal S3200x40 .f32) (v6 : IVec S3200x40 1) :
      k0_pay1 v0 v2 v4 v6 (ix3 b l d) = TokenNorm.outK (fun e => ∑ k : Fin 40,
        Scalar.select (v6 (ix2 ⟨b * 200 + l, by omega⟩ k)) (v2 (ix2 ⟨b * 200 + l, by omega⟩ k)) (v4 (ix2 ⟨b * 200 + l, by omega⟩ k))
          * v0 (ix2 k e)) d := by
    pointwise [k0_pay1]
    rfl
  rw [read]
  obtain ⟨g, hf⟩ := Features.feat_finite (fun k => x (ix3 b l k)) et ed eh em wd w hg.dur hg.task hg.dow hg.hour hg.minute hg.wdur hg.wout
  have hh := (funext fun e => features_apply hl hg e).trans hf
  rw [hf]
  exact (congrArg (TokenNorm.outK · d) hh).trans (TokenNorm.out_eq g d)

end Token

end Cert.KernelIdeal.Block

end
-- ==== Proof.Array.lean ====
/- The kernel's result array after the run: the GELU of every token's normalised features. -/
module

public import proofs.«01_k».proof.Proof.Gen.KernelIdeal.Value
public import proofs.«01_k».proof.Proof.Block
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)
open Cert.KernelIdeal Cert.KernelIdeal.Gen Cert.KernelIdeal.Keys

namespace Cert.KernelIdeal.Array

variable (m : (ℓ : Loc nD τ sig) → Buf (Elt Ideal) ℓ) (ρ : Dev nD → PrngReg) (c : Dev nD)

/-- The arguments of the kernel, with the types their shapes give. -/
abbrev X : FVec Ideal S1024x200x5 .f32 := m ((c : Thread nD τ).loc main_arg0)
abbrev T : FVec Ideal S100000x64 .f32 := m ((c : Thread nD τ).loc main_arg1)
abbrev D : FVec Ideal S7x8 .f32 := m ((c : Thread nD τ).loc main_arg2)
abbrev H : FVec Ideal S24x16 .f32 := m ((c : Thread nD τ).loc main_arg3)
abbrev M : FVec Ideal S4x8 .f32 := m ((c : Thread nD τ).loc main_arg4)
abbrev Wd : FVec Ideal S1x16 .f32 := m ((c : Thread nD τ).loc main_arg5)
abbrev Bd : FVec Ideal S16 .f32 := m ((c : Thread nD τ).loc main_arg6)
abbrev W : FVec Ideal S112x128 .f32 := m ((c : Thread nD τ).loc main_arg7)
abbrev Bo : FVec Ideal S128 .f32 := m ((c : Thread nD τ).loc main_arg8)
abbrev Gn : FVec Ideal S128 .f32 := m ((c : Thread nD τ).loc main_arg9)
abbrev Bs : FVec Ideal S128 .f32 := m ((c : Thread nD τ).loc main_arg10)

/-- The precondition's facts of the kernel's arguments. -/
abbrev Ok : Prop := Drawn.Args (X m c) (T m c) (D m c) (H m c) (M m c) (Wd m c) (Bd m c) (W m c) (Bo m c) (Gn m c) (Bs m c)

/-- The features of token `(b, l)`. -/
abbrev row (b : Fin 1024) (l : Fin 200) : Fin 128 → EReal :=
  Features.featAt (X m c) (T m c) (D m c) (H m c) (M m c) (Wd m c) (W m c) b l

/-- The result: the GELU of every token's normalised features. -/
def result : FVec Ideal S1024x200x128 .f32 := fun i => TokenNorm.outR (TokenNorm.normR (row m c (i 0) (i 1)) (i 2))

/-! ## The index maps -/

/-- The token block and the result block move with the grid point; the tables and the weights are whole. -/
theorem idx (t : Fin cfg0.N) : win0_0.index t = ![t.val, 0, 0] ∧ win0_7.index t = ![t.val, 0, 0] ∧ win0_1.index t = ![0, 0]
    ∧ win0_2.index t = ![0, 0] ∧ win0_3.index t = ![0, 0] ∧ win0_4.index t = ![0, 0] ∧ win0_5.index t = ![0, 0]
    ∧ win0_6.index t = ![0, 0] := by
  revert t
  exact (by decide +kernel : ∀ t : Fin grid0.N, win0_0.index t = ![t.val, 0, 0] ∧ win0_7.index t = ![t.val, 0, 0]
    ∧ win0_1.index t = ![0, 0] ∧ win0_2.index t = ![0, 0] ∧ win0_3.index t = ![0, 0] ∧ win0_4.index t = ![0, 0]
    ∧ win0_5.index t = ![0, 0] ∧ win0_6.index t = ![0, 0])

/-! ## The blocks -/

theorem lt64 (t : Fin cfg0.N) : t.val < 64 := t.isLt.trans_eq N_0

theorem block0 (t : Fin cfg0.N) (b : Fin 16) (l : Fin 200) (k : Fin 5) :
    (iblk m c 0 t : FVec Ideal S16x200x5 .f32) (ix3 b l k) = X m c (ix3 ⟨t.val * 16 + b, by have := lt64 t; omega⟩ l k) := by
  blk_ext [iblk, V, idx t]

theorem block5 (t : Fin cfg0.N) (k : Fin 16) : (iblk m c 5 t : FVec Ideal S1x16 .f32) (ix2 0 k) = Wd m c (ix2 0 k) := by
  blk_ext [iblk, V, idx t]

theorem block6 (t : Fin cfg0.N) (k : Fin 112) (d : Fin 128) : (iblk m c 6 t : FVec Ideal S112x128 .f32) (ix2 k d) = W m c (ix2 k d) := by
  blk_ext [iblk, V, idx t]

/-! The tables' blocks: the first four rows are the arguments'. -/

theorem entry1 (n : Fin 4) (k : Fin 64) :
    (V m c main_v2 : FVec Ideal S8x64 .f32) (ix2 ⟨n, by omega⟩ k) = T m c (ix2 ⟨n, by omega⟩ k) := by
  entry_read
  pointwise

theorem block1 (t : Fin cfg0.N) (n : Fin 4) (k : Fin 64) :
    (iblk m c 1 t : FVec Ideal S8x64 .f32) (ix2 ⟨n, by omega⟩ k) = T m c (ix2 ⟨n, by omega⟩ k) := by
  refine Eq.trans ?_ (entry1 m c n k)
  blk_ext [iblk, idx t]

theorem entry2 (n : Fin 4) (k : Fin 8) :
    (V m c main_v5 : FVec Ideal S8x8 .f32) (ix2 ⟨n, by omega⟩ k) = D m c (ix2 ⟨n, by omega⟩ k) := by
  entry_read
  pointwise

theorem block2 (t : Fin cfg0.N) (n : Fin 4) (k : Fin 8) :
    (iblk m c 2 t : FVec Ideal S8x8 .f32) (ix2 ⟨n, by omega⟩ k) = D m c (ix2 ⟨n, by omega⟩ k) := by
  refine Eq.trans ?_ (entry2 m c n k)
  blk_ext [iblk, idx t]

theorem entry3 (n : Fin 4) (k : Fin 16) :
    (V m c main_v8 : FVec Ideal S8x16 .f32) (ix2 ⟨n, by omega⟩ k) = H m c (ix2 ⟨n, by omega⟩ k) := by
  entry_read
  pointwise

theorem block3 (t : Fin cfg0.N) (n : Fin 4) (k : Fin 16) :
    (iblk m c 3 t : FVec Ideal S8x16 .f32) (ix2 ⟨n, by omega⟩ k) = H m c (ix2 ⟨n, by omega⟩ k) := by
  refine Eq.trans ?_ (entry3 m c n k)
  blk_ext [iblk, idx t]

theorem entry4 (n : Fin 4) (k : Fin 8) :
    (V m c main_v10 : FVec Ideal S8x8 .f32) (ix2 ⟨n, by omega⟩ k) = M m c (ix2 n k) := by
  entry_read
  pointwise

theorem block4 (t : Fin cfg0.N) (n : Fin 4) (k : Fin 8) :
    (iblk m c 4 t : FVec Ideal S8x8 .f32) (ix2 ⟨n, by omega⟩ k) = M m c (ix2 n k) := by
  refine Eq.trans ?_ (entry4 m c n k)
  blk_ext [iblk, idx t]

/-- A piece of the weights loaded from row `o` on. -/
theorem weights (t : Fin cfg0.N) (o : Fin 97) {n : ℕ} (r : Fin 112) (inb) (k : Fin n) (d : Fin 128) (hr : r.val = o.val + k.val) :
    View.ld (iblk m c 6 t : FVec Ideal S112x128 .f32) (Rect.unit (s := S112x128) ![o.val, 0] (⟨2, ![n, 128]⟩ : Shape).size inb) (ix2 k d)
      = W m c (ix2 r d) := by
  refine (View.ld_unit_apply_of _ _ _ _ _ (ix2 r d) fun a => ?_).trans (block6 m c t r d)
  match a with
  | ⟨0, _⟩ => exact hr
  | ⟨1, _⟩ => exact (Nat.zero_add _).symm

/-- What the body loads at a point. -/
theorem loaded (t : Fin cfg0.N) : Block.Loaded (iblk m c 1 t) (View.ld (iblk m c 6 t) r0_1) (iblk m c 2 t) (View.ld (iblk m c 6 t) r0_3)
    (iblk m c 3 t) (View.ld (iblk m c 6 t) r0_5) (iblk m c 4 t) (View.ld (iblk m c 6 t) r0_6) (iblk m c 5 t)
    (View.ld (iblk m c 6 t) r0_8) (fun n k => T m c (ix2 ⟨n, by omega⟩ k)) (fun n k => D m c (ix2 ⟨n, by omega⟩ k))
    (fun n k => H m c (ix2 ⟨n, by omega⟩ k)) (fun n k => M m c (ix2 n k)) (fun k => Wd m c (ix2 0 k)) (fun k d => W m c (ix2 k d)) where
  task := block1 m c t
  dow := block2 m c t
  hour := block3 m c t
  minute := block4 m c t
  wdur := block5 m c t
  w0 k d := weights m c t 0 _ _ k d (Nat.zero_add _).symm
  w1 k d := weights m c t 64 _ _ k d rfl
  w2 k d := weights m c t 72 _ _ k d rfl
  w3 k d := weights m c t 88 _ _ k d rfl
  w4 k d := weights m c t 96 _ _ k d rfl

variable {m c}

/-- What the precondition says of a block's token. -/
theorem good (ok : Ok m c) (t : Fin cfg0.N) (b : Fin 16) (l : Fin 200) : Block.Good (iblk m c 0 t) b l
    (fun n k => T m c (ix2 ⟨n, by omega⟩ k)) (fun n k => D m c (ix2 ⟨n, by omega⟩ k))
    (fun n k => H m c (ix2 ⟨n, by omega⟩ k)) (fun n k => M m c (ix2 n k)) (fun k => Wd m c (ix2 0 k)) (fun k d => W m c (ix2 k d)) where
  word k := by
    rw [block0]
    exact Drawn.word_of_class (ok.cls _ l k).1 (ok.cls _ l k).2
  dur := by
    obtain ⟨r, hr⟩ := ok.dur ⟨t.val * 16 + b, by have := lt64 t; omega⟩ l
    exact ⟨r, (block0 m c t b l 4).trans hr⟩
  task := ok.task
  dow := ok.dow
  hour := ok.hour
  minute := ok.minute
  wdur := ok.wdur
  wout := ok.wout

/-- What a point stores, at token `(b, l)` of its block and feature `d`. -/
theorem point (ok : Ok m c) (t : Fin cfg0.N) (b : Fin 16) (l : Fin 200) (d : Fin 128) :
    k0_pay1 (k0_pay2 (iblk m c 1 t) (View.ld (iblk m c 6 t) r0_1) (iblk m c 2 t) (View.ld (iblk m c 6 t) r0_3)
      (iblk m c 3 t) (View.ld (iblk m c 6 t) r0_5) (iblk m c 4 t) (View.ld (iblk m c 6 t) r0_6) (iblk m c 5 t)
      (View.ld (iblk m c 6 t) r0_8)) (keysOf (iblk m c 0 t)) (hotOf (iblk m c 0 t)) k0_pay8 (ix3 b l d)
      = TokenNorm.outR (TokenNorm.normR (row m c ⟨t.val * 16 + b, by have := lt64 t; omega⟩ l) d) := by
  refine (Block.stored (loaded m c t) (good ok t b l) d).trans ?_
  have h : (fun k => (iblk m c 0 t : FVec Ideal S16x200x5 .f32) (ix3 b l k))
      = fun k => X m c (ix3 ⟨t.val * 16 + b, by have := lt64 t; omega⟩ l k) := funext fun k => block0 m c t b l k
  rw [h]
  rfl

/-- The result array after the run. -/
theorem final (ok : Ok m c) : (dats m 0 c).arrAt 7 cfg0.N = result m c := by
  refine (dats m 0 c).arrAt_eq_of_covers 7 _ (by decide +kernel) fun t hf y => ?_
  blk_simp
  rw [after0_7]
  frame_out
  obtain ⟨b, l, d, rfl⟩ : ∃ (b : Fin 16) (l : Fin 200) (d : Fin 128), y = ix3 b l d := ⟨_, _, _, eq_ix3 y⟩
  refine (point ok t b l d).trans ?_
  have he : ((View.whole main_v11).slice (win0_7.rect t)).emb (ix3 b l d)
      = ix3 (⟨t.val * 16 + b, by have := lt64 t; omega⟩ : Fin 1024) l d := by
    blk_ext [idx t]
  rw [he]
  rfl

/-- The kernel's run: the result, and the arguments as they were. -/
theorem run (ok : ∀ c, Ok m c) : θ_run defs (onTc (τ := τ) (main (F := Ideal))) ⟨m, fun _ => 0, ρ⟩ fun r => ∀ c : Dev nD,
      r.2.mem ((c : Thread nD τ).loc main_v11) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun _ h c => ⟨(h c).1.trans (final (ok c)), (h c).2⟩) (Value.run_blocks m ρ)

end Cert.KernelIdeal.Array

end
-- ==== Proof.TableRow.lean ====
/- The reference's table lookups: a gather that takes, for each token, a whole row of a table, read at an index. -/
module

public import Idealize.ShloMosaic.Lib.Pointwise

@[expose] public section

noncomputable section

open Idealize.ShloMosaic

namespace Cert.TableRow

/-- The dimension numbers of `table[idx]` for a table `[N, C]` and one row number per token, `idx : [B, L, 1]`. -/
abbrev dims (N C B L : Nat) (wf : GatherDims.WF ⟨2, ![N, C]⟩ ⟨3, ![B, L, 1]⟩ ⟨3, ![B, L, C]⟩ [2] [0] [] [0] [] 2 ![1, C]) :
    GatherDims ⟨2, ![N, C]⟩ ⟨3, ![B, L, 1]⟩ ⟨3, ![B, L, C]⟩ where
  offsetDims := [2]
  collapsedSliceDims := [0]
  operandBatchingDims := []
  startIndicesBatchingDims := []
  startIndexMap := [0]
  indexVectorDim := 2
  sliceSizes := ![1, C]
  wf := wf

/-- Where the row number of token `(b, l)` is `n`, a row of the table, the lookup's entry `(b, l, k)` is the table's
    entry `(n, k)`. -/
theorem lookup {α : Type} {N C B L : Nat}
    (wf : GatherDims.WF ⟨2, ![N, C]⟩ ⟨3, ![B, L, 1]⟩ ⟨3, ![B, L, C]⟩ [2] [0] [] [0] [] 2 ![1, C])
    (table : (⟨2, ![N, C]⟩ : Shape).Idx → α) (idx : IVec ⟨3, ![B, L, 1]⟩ 32) (b : Fin B) (l : Fin L) (k : Fin C) (n : Fin N)
    (hn : (idx (ix3 b l 0)).toInt = n.val) :
    Host.gather (dims N C B L wf) table idx (ix3 b l k) = table (ix2 n k) := by
  have no_batch (a : Fin 2) : (dims N C B L wf).batchCoord (ix3 b l k) a = 0 :=
    GatherDims.batchCoord_eq_zero _ _ _ List.not_mem_nil
  unfold Host.gather
  refine congrArg table (funext fun a => Fin.ext ?_)
  show (dims N C B L wf).start (ix3 b l k) idx a + (dims N C B L wf).batchCoord (ix3 b l k) a
    + (dims N C B L wf).offCoord (ix3 b l k) a = _
  rw [no_batch, Nat.add_zero]
  match a with
  | ⟨0, _⟩ =>
    -- the row: the start index, which is in range
    have hmem : (0 : Fin 2) ∈ (dims N C B L wf).startIndexMap := List.mem_singleton.mpr rfl
    have hoff : (dims N C B L wf).offCoord (ix3 b l k) 0 = 0 :=
      GatherDims.offCoord_eq_zero _ _ _ fun h => ((GatherDims.mem_sKept _ _).mp h).1 (List.mem_singleton.mpr rfl)
    have hat : (dims N C B L wf).siIdx (ix3 b l k) ⟨List.idxOf (0 : Fin 2) (dims N C B L wf).startIndexMap,
        List.idxOf_lt_length_iff.2 hmem⟩ = ix3 b l 0 := by
      funext e
      match e with
      | ⟨0, _⟩ => rfl
      | ⟨1, _⟩ => rfl
      | ⟨2, _⟩ => rfl
    have hlt := n.isLt
    have hstart : (dims N C B L wf).start (ix3 b l k) idx 0 = n.val := by
      unfold GatherDims.start
      rw [dif_pos hmem, hat, hn]
      show min (n.val : Int).toNat (N - 1) = n.val
      omega
    exact (congrArg₂ (· + ·) hstart hoff).trans (Nat.add_zero n.val)
  | ⟨1, _⟩ =>
    -- the column: the result's own
    have hstart : (dims N C B L wf).start (ix3 b l k) idx 1 = 0 := by
      unfold GatherDims.start
      rw [dif_neg (by simp)]
    refine (congrArg₂ (· + ·) hstart ?_).trans (Nat.zero_add k.val)
    unfold GatherDims.offCoord
    rw [dif_pos ((GatherDims.mem_sKept _ _).mpr ⟨by simp, List.not_mem_nil⟩)]
    rfl

end Cert.TableRow

end
-- ==== Proof.RefRow.lean ====
/- The reference's result, read at a token and a feature under the precondition: the GELU of the normalised features. -/
module

public import proofs.«01_k».proof.Proof.Gen.ReferenceIdeal.Run
public import proofs.«01_k».proof.Proof.Drawn
public import proofs.«01_k».proof.Proof.TableRow
public import Idealize.ShloMosaic.Lib.Tactic.CleanTypes

@[expose] public section

set_option maxRecDepth 16384

noncomputable section

open Idealize.ShloMosaic Idealize.ShloMosaic.TcCoe
open Cert.ReferenceIdeal Cert.ReferenceIdeal.Gen Cert.ReferenceIdeal.Value

namespace Cert.ReferenceIdeal.Row

variable (V : Valuation τ sig (Elt Ideal))

/-- The arguments of the valuation, with the types their shapes give. -/
abbrev X : FVec Ideal S1024x200x5 .f32 := V (Proc.devRef .tc main_arg0)
abbrev T : FVec Ideal S100000x64 .f32 := V (Proc.devRef .tc main_arg1)
abbrev D : FVec Ideal S7x8 .f32 := V (Proc.devRef .tc main_arg2)
abbrev H : FVec Ideal S24x16 .f32 := V (Proc.devRef .tc main_arg3)
abbrev M : FVec Ideal S4x8 .f32 := V (Proc.devRef .tc main_arg4)
abbrev Wd : FVec Ideal S1x16 .f32 := V (Proc.devRef .tc main_arg5)
abbrev Bd : FVec Ideal S16 .f32 := V (Proc.devRef .tc main_arg6)
abbrev W : FVec Ideal S112x128 .f32 := V (Proc.devRef .tc main_arg7)
abbrev Bo : FVec Ideal S128 .f32 := V (Proc.devRef .tc main_arg8)
abbrev Gn : FVec Ideal S128 .f32 := V (Proc.devRef .tc main_arg9)
abbrev Bs : FVec Ideal S128 .f32 := V (Proc.devRef .tc main_arg10)

/-- The precondition's facts of a valuation's arguments. -/
abbrev Ok : Prop := Drawn.Args (X V) (T V) (D V) (H V) (M V) (Wd V) (Bd V) (W V) (Bo V) (Gn V) (Bs V)

/-- The features of token `(b, l)`. -/
abbrev row (b : Fin 1024) (l : Fin 200) : Fin 128 → EReal := Features.featAt (X V) (T V) (D V) (H V) (M V) (Wd V) (W V) b l

/-- The word of a small row number is not negative, and is the row number. -/
theorem small_word (n : Fin 4) : IntOp.cmpi .slt (BitVec.ofNat 32 n.val) 0#32 = 0#1 ∧ (BitVec.ofNat 32 n.val).toInt = n.val := by
  revert n; decide

/-- and it is in the range of each table: the lookup's own test of it comes out 1. -/
theorem in_range (n : Fin 4) :
    IntOp.cmpi .sge (BitVec.ofNat 32 n.val) 0#32 = 1#1 ∧ IntOp.cmpi .sle (BitVec.ofNat 32 n.val) 99999#32 = 1#1
      ∧ IntOp.cmpi .sle (BitVec.ofNat 32 n.val) 6#32 = 1#1 ∧ IntOp.cmpi .sle (BitVec.ofNat 32 n.val) 23#32 = 1#1
      ∧ IntOp.cmpi .sle (BitVec.ofNat 32 n.val) 3#32 = 1#1 := by
  revert n; decide

variable {V}

/-! The class words the four lookups use: the row numbers of the token's four columns. -/

theorem index0 (ok : Ok V) (b : Fin 1024) (l : Fin 200) (z : Fin 1) :
    (res_main_call0_v5 V : IVec S1024x200x1 32) (ix3 b l z) = BitVec.ofNat 32 (Features.cls (X V (ix3 b l 0))).val := by
  have hc := Drawn.word_of_class (ok.cls b l 0).1 (ok.cls b l 0).2
  unfold res_main_call0_v5 res_main_v2
  clean_types
  pointwise
  show Scalar.select (IntOp.cmpi .slt (Ideal.fptosi 32 (X V (ix3 b l 0))) 0#32) _ (Ideal.fptosi 32 (X V (ix3 b l 0))) = _
  rw [show Ideal.fptosi 32 (X V (ix3 b l 0)) = _ from hc]
  rw [(small_word _).1]; rfl

theorem index1 (ok : Ok V) (b : Fin 1024) (l : Fin 200) (z : Fin 1) :
    (res_main_call1_v5 V : IVec S1024x200x1 32) (ix3 b l z) = BitVec.ofNat 32 (Features.cls (X V (ix3 b l 1))).val := by
  have hc := Drawn.word_of_class (ok.cls b l 1).1 (ok.cls b l 1).2
  unfold res_main_call1_v5 res_main_v5
  clean_types
  pointwise
  show Scalar.select (IntOp.cmpi .slt (Ideal.fptosi 32 (X V (ix3 b l 1))) 0#32) _ (Ideal.fptosi 32 (X V (ix3 b l 1))) = _
  rw [show Ideal.fptosi 32 (X V (ix3 b l 1)) = _ from hc]
  rw [(small_word _).1]; rfl

theorem index2 (ok : Ok V) (b : Fin 1024) (l : Fin 200) (z : Fin 1) :
    (res_main_call2_v5 V : IVec S1024x200x1 32) (ix3 b l z) = BitVec.ofNat 32 (Features.cls (X V (ix3 b l 2))).val := by
  have hc := Drawn.word_of_class (ok.cls b l 2).1 (ok.cls b l 2).2
  unfold res_main_call2_v5 res_main_v8
  clean_types
  pointwise
  show Scalar.select (IntOp.cmpi .slt (Ideal.fptosi 32 (X V (ix3 b l 2))) 0#32) _ (Ideal.fptosi 32 (X V (ix3 b l 2))) = _
  rw [show Ideal.fptosi 32 (X V (ix3 b l 2)) = _ from hc]
  rw [(small_word _).1]; rfl

theorem index3 (ok : Ok V) (b : Fin 1024) (l : Fin 200) (z : Fin 1) :
    (res_main_call3_v5 V : IVec S1024x200x1 32) (ix3 b l z) = BitVec.ofNat 32 (Features.cls (X V (ix3 b l 3))).val := by
  have hc := Drawn.word_of_class (ok.cls b l 3).1 (ok.cls b l 3).2
  unfold res_main_call3_v5 res_main_v11
  clean_types
  pointwise
  show Scalar.select (IntOp.cmpi .slt (Ideal.fptosi 32 (X V (ix3 b l 3))) 0#32) _ (Ideal.fptosi 32 (X V (ix3 b l 3))) = _
  rw [show Ideal.fptosi 32 (X V (ix3 b l 3)) = _ from hc]
  rw [(small_word _).1]; rfl

/-- A test folded over the one coordinate it is made at is that test. -/
theorem fold_one (q : BitVec 1) : Finset.fold IntOp.andi q (fun _ : Fin 1 => IntOp.andi 1#1 1#1) Finset.univ = q := by
  revert q; decide

set_option maxHeartbeats 800000 in
/-- The reference's features are the token's: the lookups' tests pass, each takes the named row, and no bias is added. -/
theorem features (ok : Ok V) (b : Fin 1024) (l : Fin 200) (d : Fin 128) :
    (res_main_v25 V : FVec Ideal S1024x200x128 .f32) (ix3 b l d) = row V b l d := by
  have r0 := in_range (Features.cls (X V (ix3 b l 0)))
  have r1 := in_range (Features.cls (X V (ix3 b l 1)))
  have r2 := in_range (Features.cls (X V (ix3 b l 2)))
  have r3 := in_range (Features.cls (X V (ix3 b l 3)))
  unfold res_main_v25
  clean_types
  pointwise
  refine (congrArg₂ (· + ·) ?_ (ok.bout d)).trans (add_zero _)
  refine Eq.trans (Finset.sum_congr rfl fun k _ => congrArg (· * W V (ix2 k d)) ?_)
    (Features.comb_sum (fun k => X V (ix3 b l k)) (fun n k => T V (ix2 ⟨n, by omega⟩ k)) (fun n k => D V (ix2 ⟨n, by omega⟩ k))
      (fun n k => H V (ix2 ⟨n, by omega⟩ k)) (fun n k => M V (ix2 n k)) (fun k => Wd V (ix2 0 k)) (fun k d => W V (ix2 k d)) d)
  unfold Features.comb
  simp only [index0 ok, index1 ok, index2 ok, index3 ok, r0.1, r1.1, r2.1, r3.1, r0.2.1, r1.2.2.1, r2.2.2.2.1, r3.2.2.2.2]
  refine dite_congr rfl (fun h0 => ?_) fun _ => dite_congr rfl (fun h1 => ?_) fun _ => dite_congr rfl (fun h2 => ?_)
    fun _ => dite_congr rfl (fun h3 => ?_) fun _ => ?_
  · rw [fold_one]
    refine TableRow.lookup _ (T V) (res_main_call0_v5 V) b l ⟨k, h0⟩ ⟨Features.cls (X V (ix3 b l 0)), by omega⟩ ?_
    rw [index0 ok]; exact (small_word _).2
  · rw [fold_one]
    refine TableRow.lookup _ (D V) (res_main_call1_v5 V) b l ⟨k - 64, h1⟩ ⟨Features.cls (X V (ix3 b l 1)), by omega⟩ ?_
    rw [index1 ok]; exact (small_word _).2
  · rw [fold_one]
    refine TableRow.lookup _ (H V) (res_main_call2_v5 V) b l ⟨k - 64 - 8, h2⟩ ⟨Features.cls (X V (ix3 b l 2)), by omega⟩ ?_
    rw [index2 ok]; exact (small_word _).2
  · rw [fold_one]
    refine TableRow.lookup _ (M V) (res_main_call3_v5 V) b l ⟨k - 64 - 8 - 16, h3⟩ (Features.cls (X V (ix3 b l 3))) ?_
    rw [index3 ok]; exact (small_word _).2
  · refine (congrArg₂ (· + ·) ?_ (ok.bdur _)).trans (add_zero _)
    exact Fin.sum_univ_one _

/-- 128 less no degrees of freedom is 128, and positive. -/
theorem count_128 : Ideal.ofBits .f32 0x43000000#32 - FloatOps.sitofp (F := Ideal) .f32 (0#32 : BitVec 32)
    = Ideal.ofBits .f32 0x43000000#32 := by
  rw [TokenNorm.word_128]
  show ((128 : ℝ) : EReal) - (((0#32 : BitVec 32).toInt : ℝ) : EReal) = _
  simp

theorem pos_128 : 0 < Ideal.ofBits .f32 0x43000000#32 := by
  rw [TokenNorm.word_128]
  exact_mod_cast (by norm_num : (0 : ℝ) < 128)

/-- The reference's normalised features: unit gain and no bias. -/
theorem normalised (ok : Ok V) (b : Fin 1024) (l : Fin 200) (d : Fin 128) :
    (res_main_v43 V : FVec Ideal S1024x200x128 .f32) (ix3 b l d) = TokenNorm.normR (row V b l) d := by
  unfold res_main_v43 res_main_call4_v5 res_main_call4_v8
  clean_types
  pointwise
  refine (congrArg₂ (· + ·) (congrArg₂ (· * ·) ?_ (ok.gain d)) (ok.bias d)).trans ((add_zero _).trans (mul_one _))
  simp only [features ok, count_128, if_pos pos_128]
  rfl

/-- The reference's result. -/
theorem result (ok : Ok V) (b : Fin 1024) (l : Fin 200) (d : Fin 128) :
    (mulf (mulf (broadcastInDim S1024x200x128 ![] bcast_S_S1024x200x128 (constant S_ .f32 0x3F000000#32)) (res_main_v43 V))
      (Host.erfc (mulf (Host.negf (res_main_v43 V)) (broadcastInDim S1024x200x128 ![] bcast_S_S1024x200x128
        (constant S_ .f32 0x3F3504F3#32)))) : FVec Ideal S1024x200x128 .f32) (ix3 b l d)
      = TokenNorm.outR (TokenNorm.normR (row V b l) d) := by
  rw [← normalised ok]
  pointwise
  rfl

end Cert.ReferenceIdeal.Row

end
-- ==== Proof.Equation.lean ====
/- The value claim: under the precondition the kernel's result and the reference's are one array. -/
module

public import proofs.«01_k».proof.Defs
public import proofs.«01_k».proof.Proof.Array
public import proofs.«01_k».proof.Proof.RefRow

@[expose] public section

set_option maxRecDepth 16384

noncomputable section

open Idealize.ShloMosaic Idealize.ShloMosaic.TcCoe Idealize.SL.Sem

namespace Cert.Equation

open Cert.ReferenceIdeal Cert.ReferenceIdeal.Gen Cert.ReferenceIdeal.Value

/-- The reference's last expression, of a valuation of its buffers. -/
abbrev gelu (V : Valuation τ sig (Elt Ideal)) : FVec Ideal S1024x200x128 .f32 :=
  mulf (mulf (broadcastInDim S1024x200x128 ![] bcast_S_S1024x200x128 (constant S_ .f32 0x3F000000#32)) (res_main_v43 V))
    (Host.erfc (mulf (Host.negf (res_main_v43 V)) (broadcastInDim S1024x200x128 ![] bcast_S_S1024x200x128
      (constant S_ .f32 0x3F3504F3#32))))

variable (m : (ℓ : Loc Cert.KernelIdeal.nD Cert.KernelIdeal.τ Cert.KernelIdeal.sig) → Buf (Elt Ideal) ℓ)
  (c : Dev Cert.KernelIdeal.nD) (V : Valuation τ sig (Elt Ideal))

/-- On the kernel's arguments the reference's result is the kernel's. -/
theorem gelu_eq (h0 : Row.X V = KernelIdeal.Array.X m c) (h1 : Row.T V = KernelIdeal.Array.T m c)
    (h2 : Row.D V = KernelIdeal.Array.D m c) (h3 : Row.H V = KernelIdeal.Array.H m c) (h4 : Row.M V = KernelIdeal.Array.M m c)
    (h5 : Row.Wd V = KernelIdeal.Array.Wd m c) (h6 : Row.Bd V = KernelIdeal.Array.Bd m c) (h7 : Row.W V = KernelIdeal.Array.W m c)
    (h8 : Row.Bo V = KernelIdeal.Array.Bo m c) (h9 : Row.Gn V = KernelIdeal.Array.Gn m c) (h10 : Row.Bs V = KernelIdeal.Array.Bs m c)
    (ok : KernelIdeal.Array.Ok m c) : gelu V = KernelIdeal.Array.result m c := by
  have ok' : Row.Ok V := by
    unfold Row.Ok
    rw [h0, h1, h2, h3, h4, h5, h6, h7, h8, h9, h10]
    exact ok
  funext i
  obtain ⟨b, l, d, rfl⟩ : ∃ (b : Fin 1024) (l : Fin 200) (d : Fin 128), i = ix3 b l d := ⟨_, _, _, eq_ix3 i⟩
  refine (Row.result ok' b l d).trans ?_
  have hr : Row.row V b l = KernelIdeal.Array.row m c b l := by
    unfold Row.row
    rw [h0, h1, h2, h3, h4, h5, h7]
  rw [hr]
  rfl

/-- The value claim. -/
theorem algebraic : Cert.algebraic_KernelIdeal_ReferenceIdeal_pre_drawn := by
  intro m g m' g' pre hagree
  have ok : ∀ c, KernelIdeal.Array.Ok m c := fun c => Drawn.args_of_pre (pre c)
  refine ⟨fun c => KernelIdeal.Array.result m c, KernelIdeal.Array.run g ok, ?_⟩
  refine (θ_run Cert.ReferenceIdeal.defs _ _).mono (fun r h c => ⟨(h c).1.trans ?_, (h c).2⟩) (Cert.ReferenceIdeal.Value.run m' g')
  obtain ⟨a0, a1, a2, a3, a4, a5, a6, a7, a8, a9, a10⟩ := hagree c
  exact gelu_eq m c (StableHlo.launchContents m' c) a0 a1 a2 a3 a4 a5 a6 a7 a8 a9 a10 (ok c)

end Cert.Equation

end
-- ==== Proof.lean ====
module

public import proofs.«01_k».proof.Proof.Equation
public import proofs.«01_k».proof.Proof.Gen.KernelIdeal.Value
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_drawn
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference ends with its arguments kept and every semaphore at zero: it has none. -/
theorem reference_frame : Cert.quiescent_ReferenceIdeal := fun m ρ _ =>
  (θ_run (Cert.ReferenceIdeal.defs (F := Ideal)) _ _).mono (fun r h => ⟨fun c => (h c).2,
      Idealize.ShloMosaic.sem_eq_zero_of_no_sems (by decide) r.2⟩)
    (Cert.ReferenceIdeal.Value.run m ρ)

/-- The certificate's claims. -/
theorem claim : Cert.Claim := ⟨Cert.Kernel.Gen.facts, Cert.KernelIdeal.Gen.facts, Cert.ReferenceIdeal.Gen.facts, Cert.Pre_drawn.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial, trivial, Cert.Equation.algebraic⟩

end Cert.Proof

end
